-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Attn (m : (ℓ : Loc Cert.Attn.nD Cert.Attn.τ Cert.Attn.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10)
      ∧ r.2.mem ((c.tc : Thread Cert.Pre.nD Cert.Pre.τ).loc Cert.Pre.main_arg11) = m ((c.tc : Thread Cert.Pre.nD Cert.Pre.τ).loc Cert.Pre.main_arg11))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
      ∧ r.2.mem ((c.tc : Thread Cert.PreIdeal.nD Cert.PreIdeal.τ).loc Cert.PreIdeal.main_arg11) = m ((c.tc : Thread Cert.PreIdeal.nD Cert.PreIdeal.τ).loc Cert.PreIdeal.main_arg11))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10)
      ∧ r.2.mem ((c.tc : Thread Cert.PreRefIdeal.nD Cert.PreRefIdeal.τ).loc Cert.PreRefIdeal.main_arg11) = m ((c.tc : Thread Cert.PreRefIdeal.nD Cert.PreRefIdeal.τ).loc Cert.PreRefIdeal.main_arg11))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Pre_PreIdeal : Prop :=
  True

def Claim : Prop :=
  ∃ (hKernel : Cert.Kernel.Facts) (hKernelIdeal : Cert.KernelIdeal.Facts) (hReferenceIdeal : Cert.ReferenceIdeal.Facts) (hPre : Cert.Pre.Facts) (hPreIdeal : Cert.PreIdeal.Facts) (hPreRefIdeal : Cert.PreRefIdeal.Facts) (hAttn : Cert.Attn.Facts),
    quiescent_Kernel (hKernel := hKernel)
    ∧ quiescent_KernelIdeal (hKernelIdeal := hKernelIdeal)
    ∧ quiescent_ReferenceIdeal (hReferenceIdeal := hReferenceIdeal)
    ∧ quiescent_Pre (hPre := hPre)
    ∧ quiescent_PreIdeal (hPreIdeal := hPreIdeal)
    ∧ quiescent_PreRefIdeal (hPreRefIdeal := hPreRefIdeal)
    ∧ quiescent_Attn (hAttn := hAttn)
    ∧ preserves_Kernel_KernelIdeal
    ∧ algebraic_KernelIdeal_ReferenceIdeal (hKernelIdeal := hKernelIdeal) (hReferenceIdeal := hReferenceIdeal)
    ∧ preserves_Pre_PreIdeal
-- ==== Kernel.lean ====
abbrev S8x4096x1024 : Shape := ⟨3, ![8, 4096, 1024]⟩
abbrev S8x4096x512 : Shape := ⟨3, ![8, 4096, 512]⟩
abbrev S1x8x4096x256 : Shape := ⟨4, ![1, 8, 4096, 256]⟩
abbrev S1024 : Shape := ⟨1, ![1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1024x5632 : Shape := ⟨2, ![1024, 5632]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x5632 : Shape := ⟨2, ![3, 5632]⟩
abbrev S5632 : Shape := ⟨1, ![5632]⟩
abbrev S_ : Shape := ⟨0, ![]⟩
abbrev S4x5632 : Shape := ⟨2, ![4, 5632]⟩
abbrev S8x5632 : Shape := ⟨2, ![8, 5632]⟩
abbrev S8x2816 : Shape := ⟨2, ![8, 2816]⟩
abbrev S8x11x256 : Shape := ⟨3, ![8, 11, 256]⟩
abbrev S8x11x512 : Shape := ⟨3, ![8, 11, 512]⟩
abbrev S11x8x512 : Shape := ⟨3, ![11, 8, 512]⟩
abbrev S2816x1024 : Shape := ⟨2, ![2816, 1024]⟩
abbrev S512x1024 : Shape := ⟨2, ![512, 1024]⟩
abbrev S1024x1024 : Shape := ⟨2, ![1024, 1024]⟩
abbrev S256x1024 : Shape := ⟨2, ![256, 1024]⟩
abbrev S1x512x512 : Shape := ⟨3, ![1, 512, 512]⟩
abbrev S1x1x512x256 : Shape := ⟨4, ![1, 1, 512, 256]⟩
abbrev S520x512 : Shape := ⟨2, ![520, 512]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x1024x512 : Shape := ⟨3, ![1, 1024, 512]⟩
abbrev S1024x512 : Shape := ⟨2, ![1024, 512]⟩
abbrev S1x8x512 : Shape := ⟨3, ![1, 8, 512]⟩
abbrev S8x512 : Shape := ⟨2, ![8, 512]⟩
abbrev S1x512 : Shape := ⟨2, ![1, 512]⟩

abbrev nBuf : Space → Nat
  | .hbm => 63
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x1024, .bf16⟩
  | .hbm, ⟨3, _⟩ => ⟨S8x4096x1024, .bf16⟩
  | .hbm, ⟨4, _⟩ => ⟨S1x8x4096x256, .f32⟩
  | .hbm, ⟨5, _⟩ => ⟨S1024, .f32⟩
  | .hbm, ⟨6, _⟩ => ⟨S1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x5632, .f32⟩
  | .hbm, ⟨12, _⟩ => ⟨S1x3x5632, .f32⟩
  | .hbm, ⟨13, _⟩ => ⟨S1x5632, .f32⟩
  | .hbm, ⟨14, _⟩ => ⟨S1x2816x1024, .f32⟩
  | .hbm, ⟨15, _⟩ => ⟨S1x1024x1024, .f32⟩
  | .hbm, ⟨16, _⟩ => ⟨S1x1024, .f32⟩
  | .hbm, ⟨17, _⟩ => ⟨S1x256x1024, .f32⟩
  | .hbm, ⟨18, _⟩ => ⟨S1x1024, .f32⟩
  | .hbm, ⟨19, _⟩ => ⟨S1x1024, .f32⟩
  | .hbm, ⟨20, _⟩ => ⟨S1024x5632, .f32⟩
  | .hbm, ⟨21, _⟩ => ⟨S1024x2816, .f32⟩
  | .hbm, ⟨22, _⟩ => ⟨S1024x11x256, .f32⟩
  | .hbm, ⟨23, _⟩ => ⟨S1024x2816, .f32⟩
  | .hbm, ⟨24, _⟩ => ⟨S1024x11x256, .f32⟩
  | .hbm, ⟨25, _⟩ => ⟨S1024x11x512, .f32⟩
  | .hbm, ⟨26, _⟩ => ⟨S11x1024x512, .f32⟩
  | .hbm, ⟨27, _⟩ => ⟨S11x1024x512, .bf16⟩
  | .hbm, ⟨28, _⟩ => ⟨S3x5632, .f32⟩
  | .hbm, ⟨29, _⟩ => ⟨S5632, .f32⟩
  | .hbm, ⟨30, _⟩ => ⟨S1x5632, .f32⟩
  | .hbm, ⟨31, _⟩ => ⟨S_, .f32⟩
  | .hbm, ⟨32, _⟩ => ⟨S4x5632, .f32⟩
  | .hbm, ⟨33, _⟩ => ⟨S8x5632, .f32⟩
  | .hbm, ⟨34, _⟩ => ⟨S8x2816, .f32⟩
  | .hbm, ⟨35, _⟩ => ⟨S8x11x256, .f32⟩
  | .hbm, ⟨36, _⟩ => ⟨S8x2816, .f32⟩
  | .hbm, ⟨37, _⟩ => ⟨S8x11x256, .f32⟩
  | .hbm, ⟨38, _⟩ => ⟨S8x11x512, .f32⟩
  | .hbm, ⟨39, _⟩ => ⟨S11x8x512, .f32⟩
  | .hbm, ⟨40, _⟩ => ⟨S2816x1024, .f32⟩
  | .hbm, ⟨41, _⟩ => ⟨S2816x1024, .bf16⟩
  | .hbm, ⟨42, _⟩ => ⟨S1x1024, .f32⟩
  | .hbm, ⟨43, _⟩ => ⟨S1x1024, .f32⟩
  | .hbm, ⟨44, _⟩ => ⟨S512x1024, .f32⟩
  | .hbm, ⟨45, _⟩ => ⟨S512x1024, .bf16⟩
  | .hbm, ⟨46, _⟩ => ⟨S1024x1024, .f32⟩
  | .hbm, ⟨47, _⟩ => ⟨S1024x1024, .bf16⟩
  | .hbm, ⟨48, _⟩ => ⟨S1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024x1024, .f32⟩
  | .hbm, ⟨53, _⟩ => ⟨S1024x1024, .bf16⟩
  | .hbm, ⟨54, _⟩ => ⟨S1024, .f32⟩
  | .hbm, ⟨55, _⟩ => ⟨S1x1024, .f32⟩
  | .hbm, ⟨56, _⟩ => ⟨S256x1024, .f32⟩
  | .hbm, ⟨57, _⟩ => ⟨S256x1024, .bf16⟩
  | .hbm, ⟨58, _⟩ => ⟨S1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x512x256, .f32⟩
  | .local _ .vmem, ⟨9, _⟩ => ⟨S1x1x512x256, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S11x1024x512, .bf16⟩
  | .local _ .vmem, ⟨17, _⟩ => ⟨S11x8x512, .f32⟩
  | .local _ .vmem, ⟨18, _⟩ => ⟨S2816x1024, .bf16⟩
  | .local _ .vmem, ⟨19, _⟩ => ⟨S1024x1024, .bf16⟩
  | .local _ .vmem, ⟨20, _⟩ => ⟨S1x1024, .f32⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | .local _ .vmem, ⟨26, _⟩ => ⟨S520x512, .f32⟩
  | .local _ .vmem, ⟨27, _⟩ => ⟨S520x512, .f32⟩
  | .local _ .vmem, ⟨28, _⟩ => ⟨S11x8x512, .f32⟩
  | .local _ .vmem, ⟨29, _⟩ => ⟨S512x1024, .bf16⟩
  | .local _ .vmem, ⟨30, _⟩ => ⟨S512x512, .bf16⟩
  | .local _ .vmem, ⟨31, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_65 : BitVec 32 := 0#32
  let c5_i32 : BitVec 32 := 5#32
  let v108 : BitVec 32 := Scalar.addi c0_i32_65 c5_i32
  let c1_i32 : BitVec 32 := 1#32
  ⟨c0_i32_65, v108, c1_i32⟩
def k0_mult1 (k0_t1 : Fin k0_t1_loop.trips) : BitVec 32 :=
  let c0_i32_65 : BitVec 32 := 0#32
  let c1_i32 : BitVec 32 := 1#32
  let arg28 : BitVec 32 := Scf.iv c0_i32_65 c1_i32 k0_t1
  let c1_i32_102 : BitVec 32 := 1#32
  let v185 : BitVec 32 := Scalar.subi arg28 c1_i32_102
  let c0_i32_103 : BitVec 32 := 0#32
  let v186 : BitVec 32 := Scalar.maxsi v185 c0_i32_103
  let c512_i32 : BitVec 32 := 512#32
  let v187 : BitVec 32 := Scalar.muli v186 c512_i32
  v187
def k0_off1 (k0_t1 : Fin k0_t1_loop.trips) : Fin 2 → Nat :=
  let c0_i32_65 : BitVec 32 := 0#32
  let c1_i32 : BitVec 32 := 1#32
  let arg28 : BitVec 32 := Scf.iv c0_i32_65 c1_i32 k0_t1
  let c1_i32_102 : BitVec 32 := 1#32
  let v185 : BitVec 32 := Scalar.subi arg28 c1_i32_102
  let c0_i32_103 : BitVec 32 := 0#32
  let v186 : BitVec 32 := Scalar.maxsi v185 c0_i32_103
  let c512_i32 : BitVec 32 := 512#32
  let v187 : BitVec 32 := Scalar.muli v186 c512_i32
  let v188 : BitVec 32 := v187
  let v191 : Index := Scalar.indexCast v188
  let c0_108 : Index := 0#32
  ![v191.toNat, 0]
def k0_off2 (k0_t1 : Fin k0_t1_loop.trips) : Fin 3 → Nat :=
  let c2_i32 : BitVec 32 := 2#32
  let c0_i32_65 : BitVec 32 := 0#32
  let c1_i32 : BitVec 32 := 1#32
  let arg28 : BitVec 32 := Scf.iv c0_i32_65 c1_i32 k0_t1
  let v184 : BitVec 32 := Scalar.muli c2_i32 arg28
  let c1_i32_112 : BitVec 32 := 1#32
  let v199 : BitVec 32 := Scalar.addi v184 c1_i32_112
  let v201 : Index := Scalar.indexCast v199
  let c0_115 : Index := 0#32
  let c0_116 : Index := 0#32
  ![v201.toNat, 0, 0]
def k0_off3 (k0_t1 : Fin k0_t1_loop.trips) : Fin 3 → Nat :=
  let c2_i32 : BitVec 32 := 2#32
  let c0_i32_65 : BitVec 32 := 0#32
  let c1_i32 : BitVec 32 := 1#32
  let arg28 : BitVec 32 := Scf.iv c0_i32_65 c1_i32 k0_t1
  let v184 : BitVec 32 := Scalar.muli c2_i32 arg28
  let v208 : Index := Scalar.indexCast v184
  let c0_120 : Index := 0#32
  let c0_121 : Index := 0#32
  ![v208.toNat, 0, 0]
def k0_off4 (k0_t1 : Fin k0_t1_loop.trips) : Fin 3 → Nat :=
  let c2_i32 : BitVec 32 := 2#32
  let c0_i32_65 : BitVec 32 := 0#32
  let c1_i32 : BitVec 32 := 1#32
  let arg28 : BitVec 32 := Scf.iv c0_i32_65 c1_i32 k0_t1
  let v184 : BitVec 32 := Scalar.muli c2_i32 arg28
  let c2_i32_136 : BitVec 32 := 2#32
  let v248 : BitVec 32 := Scalar.addi v184 c2_i32_136
  let c10_i32 : BitVec 32 := 10#32
  let v249 : BitVec 32 := Scalar.minsi v248 c10_i32
  let v251 : Index := Scalar.indexCast v249
  let c0_139 : Index := 0#32
  let c0_140 : Index := 0#32
  ![v251.toNat, 0, 0]
def k0_off5 (k0_t1 : Fin k0_t1_loop.trips) : Fin 3 → Nat :=
  let c2_i32 : BitVec 32 := 2#32
  let c0_i32_65 : BitVec 32 := 0#32
  let c1_i32 : BitVec 32 := 1#32
  let arg28 : BitVec 32 := Scf.iv c0_i32_65 c1_i32 k0_t1
  let v184 : BitVec 32 := Scalar.muli c2_i32 arg28
  let c1_i32_144 : BitVec 32 := 1#32
  let v258 : BitVec 32 := Scalar.addi v184 c1_i32_144
  let v259 : Index := Scalar.indexCast v258
  let c0_145 : Index := 0#32
  let c0_146 : Index := 0#32
  ![v259.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S11x8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S8x4096x1024 : Shape := ⟨3, ![8, 4096, 1024]⟩
abbrev S8x4096x512 : Shape := ⟨3, ![8, 4096, 512]⟩
abbrev S1x8x4096x256 : Shape := ⟨4, ![1, 8, 4096, 256]⟩
abbrev S1024 : Shape := ⟨1, ![1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S512x1024 : Shape := ⟨2, ![512, 1024]⟩
abbrev S1024x1024 : Shape := ⟨2, ![1024, 1024]⟩
abbrev S1024x5632 : Shape := ⟨2, ![1024, 5632]⟩
abbrev S8x4096x5632 : Shape := ⟨3, ![8, 4096, 5632]⟩
abbrev S3x5632 : Shape := ⟨2, ![3, 5632]⟩
abbrev S5632 : Shape := ⟨1, ![5632]⟩
abbrev S8x4098x5632 : Shape := ⟨3, ![8, 4098, 5632]⟩
abbrev S1x1x5632 : Shape := ⟨3, ![1, 1, 5632]⟩
abbrev S8x4096x2816 : Shape := ⟨3, ![8, 4096, 2816]⟩
abbrev S2816x1024 : Shape := ⟨2, ![2816, 1024]⟩
abbrev S8x4096x256 : Shape := ⟨3, ![8, 4096, 256]⟩
abbrev S256x1024 : Shape := ⟨2, ![256, 1024]⟩

abbrev nBuf : Space → Nat
  | .hbm => 191
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x1024, .bf16⟩
  | 3 => ⟨S8x4096x1024, .bf16⟩
  | 4 => ⟨S1x8x4096x256, .f32⟩
  | 5 => ⟨S1024, .f32⟩
  | 6 => ⟨S1024, .f32⟩
  | 7 => ⟨S1x512x1024, .f32⟩
  | 8 => ⟨S1x1024x1024, .f32⟩
  | 9 => ⟨S1x1024, .f32⟩
  | 10 => ⟨S1x1024, .f32⟩
  | 11 => ⟨S1x1024x5632, .f32⟩
  | 12 => ⟨S1x3x5632, .f32⟩
  | 13 => ⟨S1x5632, .f32⟩
  | 14 => ⟨S1x2816x1024, .f32⟩
  | 15 => ⟨S1x1024x1024, .f32⟩
  | 16 => ⟨S1x1024, .f32⟩
  | 17 => ⟨S1x256x1024, .f32⟩
  | 18 => ⟨S1x1024, .f32⟩
  | 19 => ⟨S1x1024, .f32⟩
  | 20 => ⟨S8x4096x512, .f32⟩
  | 21 => ⟨S8x4096x1024, .f32⟩
  | 22 => ⟨S8x4096x1024, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S8x4096x1024, .f32⟩
  | 30 => ⟨S8x4096x1024, .f32⟩
  | 31 => ⟨S8x4096x1024, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S8x4096x1024, .f32⟩
  | 39 => ⟨S8x4096x1024, .f32⟩
  | 40 => ⟨S_, .f32⟩
  | 41 => ⟨S8x4096x1, .f32⟩
  | 42 => ⟨S8x4096x1, .f32⟩
  | 43 => ⟨S8x4096x1, .f32⟩
  | 44 => ⟨S8x4096x1024, .f32⟩
  | 45 => ⟨S8x4096x1024, .f32⟩
  | 46 => ⟨S1x1x1024, .f32⟩
  | 47 => ⟨S8x4096x1024, .f32⟩
  | 48 => ⟨S8x4096x1024, .f32⟩
  | 49 => ⟨S1x1x1024, .f32⟩
  | 50 => ⟨S8x4096x1024, .f32⟩
  | 51 => ⟨S8x4096x1024, .f32⟩
  | 52 => ⟨S512x1024, .f32⟩
  | 53 => ⟨S8x4096x1024, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S1024x1024, .f32⟩
  | 60 => ⟨S8x4096x1024, .f32⟩
  | 61 => ⟨S8x4096x1024, .f32⟩
  | 62 => ⟨S1024, .f32⟩
  | 63 => ⟨S1024, .f32⟩
  | 64 => ⟨S_, .f32⟩
  | 65 => ⟨S8x4096, .f32⟩
  | 66 => ⟨S8x4096x1, .f32⟩
  | 67 => ⟨S_, .f32⟩
  | 68 => ⟨S8x4096x1, .f32⟩
  | 69 => ⟨S8x4096x1, .f32⟩
  | 70 => ⟨S8x4096x1024, .f32⟩
  | 71 => ⟨S8x4096x1024, .f32⟩
  | 72 => ⟨S8x4096x1024, .f32⟩
  | 73 => ⟨S_, .f32⟩
  | 74 => ⟨S8x4096, .f32⟩
  | 75 => ⟨S8x4096x1, .f32⟩
  | 76 => ⟨S_, .f32⟩
  | 77 => ⟨S8x4096x1, .f32⟩
  | 78 => ⟨S8x4096x1, .f32⟩
  | 79 => ⟨S8x4096x1024, .f32⟩
  | 80 => ⟨S8x4096x1024, .f32⟩
  | 81 => ⟨S_, .f32⟩
  | 82 => ⟨S8x4096x1, .f32⟩
  | 83 => ⟨S8x4096x1, .f32⟩
  | 84 => ⟨S8x4096x1, .f32⟩
  | 85 => ⟨S8x4096x1024, .f32⟩
  | 86 => ⟨S8x4096x1024, .f32⟩
  | 87 => ⟨S1x1x1024, .f32⟩
  | 88 => ⟨S8x4096x1024, .f32⟩
  | 89 => ⟨S8x4096x1024, .f32⟩
  | 90 => ⟨S1x1x1024, .f32⟩
  | 91 => ⟨S8x4096x1024, .f32⟩
  | 92 => ⟨S8x4096x1024, .f32⟩
  | 93 => ⟨S1024x5632, .f32⟩
  | 94 => ⟨S8x4096x5632, .f32⟩
  | 95 => ⟨S3x5632, .f32⟩
  | 96 => ⟨S5632, .f32⟩
  | 97 => ⟨S_, .i32⟩
  | 98 => ⟨S_, .f32⟩
  | 99 => ⟨S8x4098x5632, .f32⟩
  | 100 => ⟨S8x4096x5632, .f32⟩
  | 101 => ⟨S1x5632, .f32⟩
  | 102 => ⟨S5632, .f32⟩
  | 103 => ⟨S1x1x5632, .f32⟩
  | 104 => ⟨S8x4096x5632, .f32⟩
  | 105 => ⟨S8x4096x5632, .f32⟩
  | 106 => ⟨S8x4096x5632, .f32⟩
  | 107 => ⟨S1x5632, .f32⟩
  | 108 => ⟨S5632, .f32⟩
  | 109 => ⟨S1x1x5632, .f32⟩
  | 110 => ⟨S8x4096x5632, .f32⟩
  | 111 => ⟨S8x4096x5632, .f32⟩
  | 112 => ⟨S8x4096x5632, .f32⟩
  | 113 => ⟨S8x4096x5632, .f32⟩
  | 114 => ⟨S1x5632, .f32⟩
  | 115 => ⟨S5632, .f32⟩
  | 116 => ⟨S1x1x5632, .f32⟩
  | 117 => ⟨S8x4096x5632, .f32⟩
  | 118 => ⟨S8x4096x5632, .f32⟩
  | 119 => ⟨S8x4096x5632, .f32⟩
  | 120 => ⟨S1x1x5632, .f32⟩
  | 121 => ⟨S8x4096x5632, .f32⟩
  | 122 => ⟨S8x4096x5632, .f32⟩
  | 123 => ⟨S8x4096x2816, .f32⟩
  | 124 => ⟨S8x4096x2816, .f32⟩
  | 125 => ⟨S8x4096x2816, .f32⟩
  | 126 => ⟨S8x4096x2816, .f32⟩
  | 127 => ⟨S_, .f32⟩
  | _ => ⟨S8x4096x1024, .f32⟩

abbrev hbmTy0_1 (i : Nat) : BufTy := match i % 128 with
  | 0 => ⟨S8x4096x2816, .f32⟩
  | 1 => ⟨S8x4096x2816, .f32⟩
  | 2 => ⟨S_, .f32⟩
  | 3 => ⟨S8x4096x2816, .f32⟩
  | 4 => ⟨S8x4096x2816, .f32⟩
  | 5 => ⟨S8x4096x2816, .f32⟩
  | 6 => ⟨S8x4096x2816, .f32⟩
  | 7 => ⟨S2816x1024, .f32⟩
  | 8 => ⟨S8x4096x1024, .f32⟩
  | 9 => ⟨S1024x1024, .f32⟩
  | 10 => ⟨S8x4096x1024, .f32⟩
  | 11 => ⟨S1024, .f32⟩
  | 12 => ⟨S1x1x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S_, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S8x4096x256, .f32⟩
  | 24 => ⟨S256x1024, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S8x4096x1024, .f32⟩
  | 31 => ⟨S8x4096x1024, .f32⟩
  | 32 => ⟨S1024, .f32⟩
  | 33 => ⟨S1024, .f32⟩
  | 34 => ⟨S_, .f32⟩
  | 35 => ⟨S8x4096, .f32⟩
  | 36 => ⟨S8x4096x1, .f32⟩
  | 37 => ⟨S_, .f32⟩
  | 38 => ⟨S8x4096x1, .f32⟩
  | 39 => ⟨S8x4096x1, .f32⟩
  | 40 => ⟨S8x4096x1024, .f32⟩
  | 41 => ⟨S8x4096x1024, .f32⟩
  | 42 => ⟨S8x4096x1024, .f32⟩
  | 43 => ⟨S_, .f32⟩
  | 44 => ⟨S8x4096, .f32⟩
  | 45 => ⟨S8x4096x1, .f32⟩
  | 46 => ⟨S_, .f32⟩
  | 47 => ⟨S8x4096x1, .f32⟩
  | 48 => ⟨S8x4096x1, .f32⟩
  | 49 => ⟨S8x4096x1024, .f32⟩
  | 50 => ⟨S8x4096x1024, .f32⟩
  | 51 => ⟨S_, .f32⟩
  | 52 => ⟨S8x4096x1, .f32⟩
  | 53 => ⟨S8x4096x1, .f32⟩
  | 54 => ⟨S8x4096x1, .f32⟩
  | 55 => ⟨S8x4096x1024, .f32⟩
  | 56 => ⟨S8x4096x1024, .f32⟩
  | 57 => ⟨S1x1x1024, .f32⟩
  | 58 => ⟨S8x4096x1024, .f32⟩
  | 59 => ⟨S8x4096x1024, .f32⟩
  | 60 => ⟨S1x1x1024, .f32⟩
  | 61 => ⟨S8x4096x1024, .f32⟩
  | 62 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c : Ref sig .tc := ⟨.hbm, 97, rfl⟩
abbrev main_call0_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_10 : Ref sig .tc := ⟨.hbm, 145, rfl⟩
abbrev main_v104 : Ref sig .tc := ⟨.hbm, 146, rfl⟩
abbrev main_v105 : Ref sig .tc := ⟨.hbm, 147, rfl⟩
abbrev main_cst_11 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_12 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_13 : Ref sig .tc := ⟨.hbm, 162, rfl⟩
abbrev main_v118 : Ref sig .tc := ⟨.hbm, 163, rfl⟩
abbrev main_v119 : Ref sig .tc := ⟨.hbm, 164, rfl⟩
abbrev main_cst_14 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_15 : Ref sig .tc := ⟨.hbm, 171, rfl⟩
abbrev main_v125 : Ref sig .tc := ⟨.hbm, 172, rfl⟩
abbrev main_v126 : Ref sig .tc := ⟨.hbm, 173, rfl⟩
abbrev main_cst_16 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_17 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩

abbrev nD : Nat := 1
abbrev τ : Topo := Topo.v7x

variable {F : FTy → Type} [FloatOps F]
-- ==== Pre.lean ====
abbrev S8x4096x1024 : Shape := ⟨3, ![8, 4096, 1024]⟩
abbrev S1024 : Shape := ⟨1, ![1024]⟩
abbrev S1x1024x4808 : Shape := ⟨3, ![1, 1024, 4808]⟩
abbrev S1x2x1024 : Shape := ⟨3, ![1, 2, 1024]⟩
abbrev S1x128 : Shape := ⟨2, ![1, 128]⟩
abbrev S1x8x128x64 : Shape := ⟨4, ![1, 8, 128, 64]⟩
abbrev S1x64 : Shape := ⟨2, ![1, 64]⟩
abbrev S1x3x512 : Shape := ⟨3, ![1, 3, 512]⟩
abbrev S1x512 : Shape := ⟨2, ![1, 512]⟩
abbrev S1x512x1024 : Shape := ⟨3, ![1, 512, 1024]⟩
abbrev S1024x4808 : Shape := ⟨2, ![1024, 4808]⟩
abbrev S_ : Shape := ⟨0, ![]⟩
abbrev S1024x64 : Shape := ⟨2, ![1024, 64]⟩
abbrev S1024x128 : Shape := ⟨2, ![1024, 128]⟩
abbrev S1024x3584 : Shape := ⟨2, ![1024, 3584]⟩
abbrev S1024x3840 : Shape := ⟨2, ![1024, 3840]⟩
abbrev S1024x512 : Shape := ⟨2, ![1024, 512]⟩
abbrev S1024x1024 : Shape := ⟨2, ![1024, 1024]⟩
abbrev S1024x8 : Shape := ⟨2, ![1024, 8]⟩
abbrev S8x1024 : Shape := ⟨2, ![8, 1024]⟩
abbrev S16x1024 : Shape := ⟨2, ![16, 1024]⟩
abbrev S64 : Shape := ⟨1, ![64]⟩
abbrev S128 : Shape := ⟨1, ![128]⟩
abbrev S3x512 : Shape := ⟨2, ![3, 512]⟩
abbrev S512 : Shape := ⟨1, ![512]⟩
abbrev S4x512 : Shape := ⟨2, ![4, 512]⟩
abbrev S8x512 : Shape := ⟨2, ![8, 512]⟩
abbrev S1x1024 : Shape := ⟨2, ![1, 1024]⟩
abbrev S8x128x64 : Shape := ⟨3, ![8, 128, 64]⟩
abbrev S512x1024 : Shape := ⟨2, ![512, 1024]⟩
abbrev S2x1024 : Shape := ⟨2, ![2, 1024]⟩
abbrev S8x4096x128 : Shape := ⟨3, ![8, 4096, 128]⟩
abbrev S8x16x144x256 : Shape := ⟨4, ![8, 16, 144, 256]⟩
abbrev S8x4096x64 : Shape := ⟨3, ![8, 4096, 64]⟩
abbrev S8x32x128x1024 : Shape := ⟨4, ![8, 32, 128, 1024]⟩
abbrev S8x32x64x1024 : Shape := ⟨4, ![8, 32, 64, 1024]⟩
abbrev S8x32x8x128 : Shape := ⟨4, ![8, 32, 8, 128]⟩
abbrev S1x1024x1024 : Shape := ⟨3, ![1, 1024, 1024]⟩
abbrev S1x1024x128 : Shape := ⟨3, ![1, 1024, 128]⟩
abbrev S1x4x144x256 : Shape := ⟨4, ![1, 4, 144, 256]⟩
abbrev S1x1024x64 : Shape := ⟨3, ![1, 1024, 64]⟩
abbrev S1x8x128x1024 : Shape := ⟨4, ![1, 8, 128, 1024]⟩
abbrev S1x8x64x1024 : Shape := ⟨4, ![1, 8, 64, 1024]⟩
abbrev S1x8x8x128 : Shape := ⟨4, ![1, 8, 8, 128]⟩
abbrev S1032x512 : Shape := ⟨2, ![1032, 512]⟩
abbrev S1024x1 : Shape := ⟨2, ![1024, 1]⟩
abbrev S16x256 : Shape := ⟨2, ![16, 256]⟩
abbrev S256x128 : Shape := ⟨2, ![256, 128]⟩
abbrev S128x256 : Shape := ⟨2, ![128, 256]⟩
abbrev S1x1x128x256 : Shape := ⟨4, ![1, 1, 128, 256]⟩
abbrev S1x1x16x256 : Shape := ⟨4, ![1, 1, 16, 256]⟩
abbrev S64x1024 : Shape := ⟨2, ![64, 1024]⟩
abbrev S1x128x64 : Shape := ⟨3, ![1, 128, 64]⟩
abbrev S128x64 : Shape := ⟨2, ![128, 64]⟩
abbrev S128x1024 : Shape := ⟨2, ![128, 1024]⟩
abbrev S128x128 : Shape := ⟨2, ![128, 128]⟩
abbrev S1x1x128x128 : Shape := ⟨4, ![1, 1, 128, 128]⟩
abbrev S64x128 : Shape := ⟨2, ![64, 128]⟩
abbrev S1x1x64x128 : Shape := ⟨4, ![1, 1, 64, 128]⟩
abbrev S8x128 : Shape := ⟨2, ![8, 128]⟩
abbrev S1x1x8x128 : Shape := ⟨4, ![1, 1, 8, 128]⟩

abbrev nBuf : Space → Nat
  | .hbm => 64
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1x1024x4808, .f32⟩
  | .hbm, ⟨4, _⟩ => ⟨S1x2x1024, .f32⟩
  | .hbm, ⟨5, _⟩ => ⟨S1x128, .f32⟩
  | .hbm, ⟨6, _⟩ => ⟨S1x8x128x64, .f32⟩
  | .hbm, ⟨7, _⟩ => ⟨S1x64, .f32⟩
  | .hbm, ⟨8, _⟩ => ⟨S1x64, .f32⟩
  | .hbm, ⟨9, _⟩ => ⟨S1x3x512, .f32⟩
  | .hbm, ⟨10, _⟩ => ⟨S1x512, .f32⟩
  | .hbm, ⟨11, _⟩ => ⟨S1x512x1024, .f32⟩
  | .hbm, ⟨12, _⟩ => ⟨S1024x4808, .f32⟩
  | .hbm, ⟨13, _⟩ => ⟨S_, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S1024x3584, .f32⟩
  | .hbm, ⟨18, _⟩ => ⟨S1024x3840, .f32⟩
  | .hbm, ⟨19, _⟩ => ⟨S1024x3840, .bf16⟩
  | .hbm, ⟨20, _⟩ => ⟨S1024x512, .f32⟩
  | .hbm, ⟨21, _⟩ => ⟨S1024x512, .f32⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S1024x8, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S16x1024, .f32⟩
  | .hbm, ⟨30, _⟩ => ⟨S16x1024, .bf16⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S128, .f32⟩
  | .hbm, ⟨35, _⟩ => ⟨S1x128, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S128, .f32⟩
  | .hbm, ⟨40, _⟩ => ⟨S1x128, .f32⟩
  | .hbm, ⟨41, _⟩ => ⟨S3x512, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S4x512, .f32⟩
  | .hbm, ⟨46, _⟩ => ⟨S8x512, .f32⟩
  | .hbm, ⟨47, _⟩ => ⟨S1x1024, .f32⟩
  | .hbm, ⟨48, _⟩ => ⟨S1x1024, .f32⟩
  | .hbm, ⟨49, _⟩ => ⟨S128, .f32⟩
  | .hbm, ⟨50, _⟩ => ⟨S1x128, .f32⟩
  | .hbm, ⟨51, _⟩ => ⟨S8x128x64, .f32⟩
  | .hbm, ⟨52, _⟩ => ⟨S8x128x64, .bf16⟩
  | .hbm, ⟨53, _⟩ => ⟨S512x1024, .f32⟩
  | .hbm, ⟨54, _⟩ => ⟨S512x1024, .bf16⟩
  | .hbm, ⟨55, _⟩ => ⟨S2x1024, .f32⟩
  | .hbm, ⟨56, _⟩ => ⟨S8x4096x128, .bf16⟩
  | .hbm, ⟨57, _⟩ => ⟨S8x16x144x256, .bf16⟩
  | .hbm, ⟨58, _⟩ => ⟨S8x4096x64, .bf16⟩
  | .hbm, ⟨59, _⟩ => ⟨S8x32x128x1024, .bf16⟩
  | .hbm, ⟨60, _⟩ => ⟨S8x32x64x1024, .bf16⟩
  | .hbm, ⟨61, _⟩ => ⟨S8x32x8x128, .f32⟩
  | .hbm, ⟨62, _⟩ => ⟨S8x4096x1024, .bf16⟩
  | .hbm, ⟨63, _⟩ => ⟨S8x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3840, .bf16⟩
  | .local _ .vmem, ⟨5, _⟩ => ⟨S1024x1024, .bf16⟩
  | .local _ .vmem, ⟨6, _⟩ => ⟨S16x1024, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S8x128x64, .bf16⟩
  | .local _ .vmem, ⟨11, _⟩ => ⟨S8x512, .f32⟩
  | .local _ .vmem, ⟨12, _⟩ => ⟨S512x1024, .bf16⟩
  | .local _ .vmem, ⟨13, _⟩ => ⟨S2x1024, .f32⟩
  | .local _ .vmem, ⟨14, _⟩ => ⟨S1x1024x128, .bf16⟩
  | .local _ .vmem, ⟨15, _⟩ => ⟨S1x1024x128, .bf16⟩
  | .local _ .vmem, ⟨16, _⟩ => ⟨S1x4x144x256, .bf16⟩
  | .local _ .vmem, ⟨17, _⟩ => ⟨S1x4x144x256, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x8x128x1024, .bf16⟩
  | .local _ .vmem, ⟨21, _⟩ => ⟨S1x8x128x1024, .bf16⟩
  | .local _ .vmem, ⟨22, _⟩ => ⟨S1x8x64x1024, .bf16⟩
  | .local _ .vmem, ⟨23, _⟩ => ⟨S1x8x64x1024, .bf16⟩
  | .local _ .vmem, ⟨24, _⟩ => ⟨S1x8x8x128, .f32⟩
  | .local _ .vmem, ⟨25, _⟩ => ⟨S1x8x8x128, .f32⟩
  | .local _ .vmem, ⟨26, _⟩ => ⟨S1x1024x1024, .bf16⟩
  | .local _ .vmem, ⟨27, _⟩ => ⟨S1x1024x1024, .bf16⟩
  | .local _ .vmem, ⟨28, _⟩ => ⟨S1x1024x1024, .bf16⟩
  | .local _ .vmem, ⟨29, _⟩ => ⟨S1x1024x1024, .bf16⟩
  | .local _ .vmem, ⟨30, _⟩ => ⟨S1032x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v39_2 : Ref sig .tc := ⟨.hbm, 58, rfl⟩
abbrev main_v39_3 : Ref sig .tc := ⟨.hbm, 59, rfl⟩
abbrev main_v39_4 : Ref sig .tc := ⟨.hbm, 60, rfl⟩
abbrev main_v39_5 : Ref sig .tc := ⟨.hbm, 61, rfl⟩
abbrev main_v39_6 : Ref sig .tc := ⟨.hbm, 62, rfl⟩
abbrev main_v39_7 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x144x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x64x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== PreRefIdeal.lean ====
abbrev S8x4096x1024 : Shape := ⟨3, ![8, 4096, 1024]⟩
abbrev S1024 : Shape := ⟨1, ![1024]⟩
abbrev S1x1024x4808 : Shape := ⟨3, ![1, 1024, 4808]⟩
abbrev S1x2x1024 : Shape := ⟨3, ![1, 2, 1024]⟩
abbrev S1x128 : Shape := ⟨2, ![1, 128]⟩
abbrev S1x8x128x64 : Shape := ⟨4, ![1, 8, 128, 64]⟩
abbrev S1x64 : Shape := ⟨2, ![1, 64]⟩
abbrev S1x3x512 : Shape := ⟨3, ![1, 3, 512]⟩
abbrev S1x512 : Shape := ⟨2, ![1, 512]⟩
abbrev S1x512x1024 : Shape := ⟨3, ![1, 512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4808 : Shape := ⟨2, ![1024, 4808]⟩
abbrev S8x4096x4808 : Shape := ⟨3, ![8, 4096, 4808]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S128 : Shape := ⟨1, ![128]⟩
abbrev S1x1x128 : Shape := ⟨3, ![1, 1, 128]⟩
abbrev S8x128x64 : Shape := ⟨3, ![8, 128, 64]⟩
abbrev S8x128x8x4096 : Shape := ⟨4, ![8, 128, 8, 4096]⟩
abbrev S8x4096x8x128 : Shape := ⟨4, ![8, 4096, 8, 128]⟩
abbrev S64 : Shape := ⟨1, ![64]⟩
abbrev S1x1x64 : Shape := ⟨3, ![1, 1, 64]⟩
abbrev S3x512 : Shape := ⟨2, ![3, 512]⟩
abbrev S512 : Shape := ⟨1, ![512]⟩
abbrev S8x4098x512 : Shape := ⟨3, ![8, 4098, 512]⟩
abbrev S1x1x512 : Shape := ⟨3, ![1, 1, 512]⟩
abbrev S512x1024 : Shape := ⟨2, ![512, 1024]⟩
abbrev S8x4096x15 : Shape := ⟨3, ![8, 4096, 15]⟩
abbrev S8x4096x144 : Shape := ⟨3, ![8, 4096, 144]⟩
abbrev S8x16x256x144 : Shape := ⟨4, ![8, 16, 256, 144]⟩
abbrev S8x16x144x256 : Shape := ⟨4, ![8, 16, 144, 256]⟩
abbrev S8x32x128x8x128 : Shape := ⟨5, ![8, 32, 128, 8, 128]⟩
abbrev S8x32x128x1024 : Shape := ⟨4, ![8, 32, 128, 1024]⟩
abbrev S8x32x128x8x64 : Shape := ⟨5, ![8, 32, 128, 8, 64]⟩
abbrev S8x32x64x8x128 : Shape := ⟨5, ![8, 32, 64, 8, 128]⟩
abbrev S8x32x64x1024 : Shape := ⟨4, ![8, 32, 64, 1024]⟩
abbrev S8x32x128x8 : Shape := ⟨4, ![8, 32, 128, 8]⟩
abbrev S8x32x8x128 : Shape := ⟨4, ![8, 32, 8, 128]⟩

abbrev nBuf : Space → Nat
  | .hbm => 196
  | .vmem => 0
  | .smem => 0
  | _ => 0

abbrev hbmTy0_0 (i : Nat) : BufTy := match i % 128 with
  | 0 => ⟨S8x4096x1024, .f32⟩
  | 1 => ⟨S1024, .f32⟩
  | 2 => ⟨S1024, .f32⟩
  | 3 => ⟨S1x1024x4808, .f32⟩
  | 4 => ⟨S1x2x1024, .f32⟩
  | 5 => ⟨S1x128, .f32⟩
  | 6 => ⟨S1x8x128x64, .f32⟩
  | 7 => ⟨S1x64, .f32⟩
  | 8 => ⟨S1x64, .f32⟩
  | 9 => ⟨S1x3x512, .f32⟩
  | 10 => ⟨S1x512, .f32⟩
  | 11 => ⟨S1x512x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S8x4096x1024, .f32⟩
  | 19 => ⟨S8x4096x1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S8x4096x1024, .f32⟩
  | 28 => ⟨S8x4096x1024, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S1024x4808, .f32⟩
  | 42 => ⟨S8x4096x4808, .f32⟩
  | 43 => ⟨S8x4096x512, .f32⟩
  | 44 => ⟨S8x4096x128, .f32⟩
  | 45 => ⟨S8x4096x512, .f32⟩
  | 46 => ⟨S8x4096x64, .f32⟩
  | 47 => ⟨S8x4096x8, .f32⟩
  | 48 => ⟨S8x4096x512, .f32⟩
  | 49 => ⟨S8x4096x512, .f32⟩
  | 50 => ⟨S8x4096x512, .f32⟩
  | 51 => ⟨S8x4096x1024, .f32⟩
  | 52 => ⟨S8x4096x1024, .f32⟩
  | 53 => ⟨S8x4096x8x64, .f32⟩
  | 54 => ⟨S128, .f32⟩
  | 55 => ⟨S8x4096x128, .f32⟩
  | 56 => ⟨S_, .f32⟩
  | 57 => ⟨S8x4096, .f32⟩
  | 58 => ⟨S8x4096x1, .f32⟩
  | 59 => ⟨S_, .f32⟩
  | 60 => ⟨S8x4096x1, .f32⟩
  | 61 => ⟨S8x4096x1, .f32⟩
  | 62 => ⟨S_, .f32⟩
  | 63 => ⟨S8x4096x1, .f32⟩
  | 64 => ⟨S8x4096x1, .f32⟩
  | 65 => ⟨S8x4096x1, .f32⟩
  | 66 => ⟨S8x4096x128, .f32⟩
  | 67 => ⟨S8x4096x128, .f32⟩
  | 68 => ⟨S1x1x128, .f32⟩
  | 69 => ⟨S8x4096x128, .f32⟩
  | 70 => ⟨S8x4096x128, .f32⟩
  | 71 => ⟨S8x128x64, .f32⟩
  | 72 => ⟨S8x128x8x4096, .f32⟩
  | 73 => ⟨S8x4096x8x128, .f32⟩
  | 74 => ⟨S_, .f32⟩
  | 75 => ⟨S8x4096x8x128, .f32⟩
  | 76 => ⟨S8x4096x8x128, .f32⟩
  | 77 => ⟨S8x4096x8x64, .f32⟩
  | 78 => ⟨S64, .f32⟩
  | 79 => ⟨S64, .f32⟩
  | 80 => ⟨S_, .f32⟩
  | 81 => ⟨S8x4096, .f32⟩
  | 82 => ⟨S8x4096x1, .f32⟩
  | 83 => ⟨S_, .f32⟩
  | 84 => ⟨S8x4096x1, .f32⟩
  | 85 => ⟨S8x4096x1, .f32⟩
  | 86 => ⟨S8x4096x64, .f32⟩
  | 87 => ⟨S8x4096x64, .f32⟩
  | 88 => ⟨S8x4096x64, .f32⟩
  | 89 => ⟨S_, .f32⟩
  | 90 => ⟨S8x4096, .f32⟩
  | 91 => ⟨S8x4096x1, .f32⟩
  | 92 => ⟨S_, .f32⟩
  | 93 => ⟨S8x4096x1, .f32⟩
  | 94 => ⟨S8x4096x1, .f32⟩
  | 95 => ⟨S8x4096x64, .f32⟩
  | 96 => ⟨S8x4096x64, .f32⟩
  | 97 => ⟨S_, .f32⟩
  | 98 => ⟨S8x4096x1, .f32⟩
  | 99 => ⟨S8x4096x1, .f32⟩
  | 100 => ⟨S8x4096x1, .f32⟩
  | 101 => ⟨S8x4096x64, .f32⟩
  | 102 => ⟨S8x4096x64, .f32⟩
  | 103 => ⟨S1x1x64, .f32⟩
  | 104 => ⟨S8x4096x64, .f32⟩
  | 105 => ⟨S8x4096x64, .f32⟩
  | 106 => ⟨S1x1x64, .f32⟩
  | 107 => ⟨S8x4096x64, .f32⟩
  | 108 => ⟨S8x4096x64, .f32⟩
  | 109 => ⟨S_, .f32⟩
  | 110 => ⟨S8x4096x8, .f32⟩
  | 111 => ⟨S8x4096x8, .f32⟩
  | 112 => ⟨S_, .f32⟩
  | 113 => ⟨S8x4096x8, .f32⟩
  | 114 => ⟨S8x4096x8, .f32⟩
  | 115 => ⟨S8x4096x512, .f32⟩
  | 116 => ⟨S3x512, .f32⟩
  | 117 => ⟨S512, .f32⟩
  | 118 => ⟨S_, .i32⟩
  | 119 => ⟨S_, .f32⟩
  | 120 => ⟨S8x4098x512, .f32⟩
  | 121 => ⟨S8x4096x512, .f32⟩
  | 122 => ⟨S1x512, .f32⟩
  | 123 => ⟨S512, .f32⟩
  | 124 => ⟨S1x1x512, .f32⟩
  | 125 => ⟨S8x4096x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S1x512, .f32⟩
  | 1 => ⟨S512, .f32⟩
  | 2 => ⟨S1x1x512, .f32⟩
  | 3 => ⟨S8x4096x512, .f32⟩
  | 4 => ⟨S8x4096x512, .f32⟩
  | 5 => ⟨S8x4096x512, .f32⟩
  | 6 => ⟨S8x4096x512, .f32⟩
  | 7 => ⟨S1x512, .f32⟩
  | 8 => ⟨S512, .f32⟩
  | 9 => ⟨S1x1x512, .f32⟩
  | 10 => ⟨S8x4096x512, .f32⟩
  | 11 => ⟨S8x4096x512, .f32⟩
  | 12 => ⟨S8x4096x512, .f32⟩
  | 13 => ⟨S1x1x512, .f32⟩
  | 14 => ⟨S8x4096x512, .f32⟩
  | 15 => ⟨S8x4096x512, .f32⟩
  | 16 => ⟨S8x4096x512, .f32⟩
  | 17 => ⟨S1x1x1024, .f32⟩
  | 18 => ⟨S1024, .f32⟩
  | 19 => ⟨S1x1x1024, .f32⟩
  | 20 => ⟨S8x4096x1024, .f32⟩
  | 21 => ⟨S8x4096x1024, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S1x1x1024, .f32⟩
  | 31 => ⟨S1024, .f32⟩
  | 32 => ⟨S1x1x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S_, .f32⟩
  | 41 => ⟨S8x4096x1024, .f32⟩
  | 42 => ⟨S8x4096x1024, .f32⟩
  | 43 => ⟨S512x1024, .f32⟩
  | 44 => ⟨S8x4096x1024, .f32⟩
  | 45 => ⟨S8x4096x1024, .f32⟩
  | 46 => ⟨S_, .f32⟩
  | 47 => ⟨S8x4096x1, .f32⟩
  | 48 => ⟨S_, .f32⟩
  | 49 => ⟨S8x4096x15, .f32⟩
  | 50 => ⟨S8x4096x144, .f32⟩
  | 51 => ⟨S8x4096x128, .bf16⟩
  | 52 => ⟨S8x16x256x144, .f32⟩
  | 53 => ⟨S8x16x144x256, .f32⟩
  | 54 => ⟨S8x16x144x256, .bf16⟩
  | 55 => ⟨S8x4096x64, .bf16⟩
  | 56 => ⟨S8x32x128x8x128, .f32⟩
  | 57 => ⟨S8x32x128x8x128, .f32⟩
  | 58 => ⟨S8x32x128x1024, .f32⟩
  | 59 => ⟨S8x32x128x1024, .bf16⟩
  | 60 => ⟨S8x32x128x8x64, .f32⟩
  | 61 => ⟨S8x32x64x8x128, .f32⟩
  | 62 => ⟨S8x32x64x1024, .f32⟩
  | 63 => ⟨S8x32x64x1024, .bf16⟩
  | 64 => ⟨S8x32x128x8, .f32⟩
  | 65 => ⟨S8x32x8x128, .f32⟩
  | 66 => ⟨S8x4096x1024, .bf16⟩
  | 67 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c : Ref sig .tc := ⟨.hbm, 118, rfl⟩
abbrev main_call0_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_15 : Ref sig .tc := ⟨.hbm, 152, rfl⟩
abbrev main_v122 : Ref sig .tc := ⟨.hbm, 153, rfl⟩
abbrev main_v123 : Ref sig .tc := ⟨.hbm, 154, rfl⟩
abbrev main_cst_16 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_17 : Ref sig .tc := ⟨.hbm, 165, rfl⟩
abbrev main_v133 : Ref sig .tc := ⟨.hbm, 166, rfl⟩
abbrev main_v134 : Ref sig .tc := ⟨.hbm, 167, rfl⟩
abbrev main_cst_18 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_19 : Ref sig .tc := ⟨.hbm, 174, rfl⟩
abbrev main_v140 : Ref sig .tc := ⟨.hbm, 175, rfl⟩
abbrev main_cst_20 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩

abbrev nD : Nat := 1
abbrev τ : Topo := Topo.v7x

variable {F : FTy → Type} [FloatOps F]
-- ==== Attn.lean ====
abbrev S8x32x128x1024 : Shape := ⟨4, ![8, 32, 128, 1024]⟩
abbrev S8x32x64x1024 : Shape := ⟨4, ![8, 32, 64, 1024]⟩
abbrev S8x32x8x128 : Shape := ⟨4, ![8, 32, 8, 128]⟩
abbrev S8x4096x128 : Shape := ⟨3, ![8, 4096, 128]⟩
abbrev S8x16x144x256 : Shape := ⟨4, ![8, 16, 144, 256]⟩
abbrev S8x4096x64 : Shape := ⟨3, ![8, 4096, 64]⟩
abbrev S1x8x128x64 : Shape := ⟨4, ![1, 8, 128, 64]⟩
abbrev S8x128x64 : Shape := ⟨3, ![8, 128, 64]⟩
abbrev S8x64x128 : Shape := ⟨3, ![8, 64, 128]⟩
abbrev S8x4096x512 : Shape := ⟨3, ![8, 4096, 512]⟩
abbrev S1x1x128x1024 : Shape := ⟨4, ![1, 1, 128, 1024]⟩
abbrev S1x1x64x1024 : Shape := ⟨4, ![1, 1, 64, 1024]⟩
abbrev S1x1x8x128 : Shape := ⟨4, ![1, 1, 8, 128]⟩
abbrev S1x4096x128 : Shape := ⟨3, ![1, 4096, 128]⟩
abbrev S1x16x144x256 : Shape := ⟨4, ![1, 16, 144, 256]⟩
abbrev S1x4096x64 : Shape := ⟨3, ![1, 4096, 64]⟩
abbrev S1x128x512 : Shape := ⟨3, ![1, 128, 512]⟩
abbrev S4096x128 : Shape := ⟨2, ![4096, 128]⟩
abbrev S2048x128 : Shape := ⟨2, ![2048, 128]⟩
abbrev S4096x256 : Shape := ⟨2, ![4096, 256]⟩
abbrev S256x1024 : Shape := ⟨2, ![256, 1024]⟩
abbrev S128x1024 : Shape := ⟨2, ![128, 1024]⟩
abbrev S8x128 : Shape := ⟨2, ![8, 128]⟩
abbrev S8x1024 : Shape := ⟨2, ![8, 1024]⟩
abbrev S144x1024 : Shape := ⟨2, ![144, 1024]⟩
abbrev S1x128 : Shape := ⟨2, ![1, 128]⟩
abbrev S128x128 : Shape := ⟨2, ![128, 128]⟩
abbrev S1x128x64 : Shape := ⟨3, ![1, 128, 64]⟩
abbrev S128x64 : Shape := ⟨2, ![128, 64]⟩
abbrev S64x1024 : Shape := ⟨2, ![64, 1024]⟩
abbrev S1x1x1x128 : Shape := ⟨4, ![1, 1, 1, 128]⟩
abbrev S16x128 : Shape := ⟨2, ![16, 128]⟩
abbrev S256x128 : Shape := ⟨2, ![256, 128]⟩
abbrev S16x16x128 : Shape := ⟨3, ![16, 16, 128]⟩
abbrev S1x16x128 : Shape := ⟨3, ![1, 16, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256x256 : Shape := ⟨2, ![256, 256]⟩
abbrev S32x8x1024 : Shape := ⟨3, ![32, 8, 1024]⟩
abbrev S1x1x144x256 : Shape := ⟨4, ![1, 1, 144, 256]⟩
abbrev S144x256 : Shape := ⟨2, ![144, 256]⟩
abbrev S144x128 : Shape := ⟨2, ![144, 128]⟩
abbrev S1x64x128 : Shape := ⟨3, ![1, 64, 128]⟩
abbrev S64x128 : Shape := ⟨2, ![64, 128]⟩
abbrev S512x128 : Shape := ⟨2, ![512, 128]⟩
abbrev S128x512 : Shape := ⟨2, ![128, 512]⟩

abbrev nBuf : Space → Nat
  | .hbm => 11
  | .vmem => 33
  | .smem => 0
  | _ => 0

abbrev bufTy : (tb : Table) → Fin (tcTables nBuf tb) → BufTy
  | .hbm, ⟨0, _⟩ => ⟨S8x32x128x1024, .bf16⟩
  | .hbm, ⟨1, _⟩ => ⟨S8x32x64x1024, .bf16⟩
  | .hbm, ⟨2, _⟩ => ⟨S8x32x8x128, .f32⟩
  | .hbm, ⟨3, _⟩ => ⟨S8x4096x128, .bf16⟩
  | .hbm, ⟨4, _⟩ => ⟨S8x16x144x256, .bf16⟩
  | .hbm, ⟨5, _⟩ => ⟨S8x4096x64, .bf16⟩
  | .hbm, ⟨6, _⟩ => ⟨S1x8x128x64, .f32⟩
  | .hbm, ⟨7, _⟩ => ⟨S8x128x64, .f32⟩
  | .hbm, ⟨8, _⟩ => ⟨S8x64x128, .f32⟩
  | .hbm, ⟨9, _⟩ => ⟨S8x64x128, .bf16⟩
  | .hbm, ⟨10, _⟩ => ⟨S8x4096x512, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x8x128, .f32⟩
  | .local _ .vmem, ⟨5, _⟩ => ⟨S1x1x8x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x16x144x256, .bf16⟩
  | .local _ .vmem, ⟨9, _⟩ => ⟨S1x16x144x256, .bf16⟩
  | .local _ .vmem, ⟨10, _⟩ => ⟨S1x4096x64, .bf16⟩
  | .local _ .vmem, ⟨11, _⟩ => ⟨S1x4096x64, .bf16⟩
  | .local _ .vmem, ⟨12, _⟩ => ⟨S8x64x128, .bf16⟩
  | .local _ .vmem, ⟨13, _⟩ => ⟨S1x128x512, .bf16⟩
  | .local _ .vmem, ⟨14, _⟩ => ⟨S1x128x512, .bf16⟩
  | .local _ .vmem, ⟨15, _⟩ => ⟨S4096x128, .i32⟩
  | .local _ .vmem, ⟨16, _⟩ => ⟨S2048x128, .i32⟩
  | .local _ .vmem, ⟨17, _⟩ => ⟨S2048x128, .i32⟩
  | .local _ .vmem, ⟨18, _⟩ => ⟨S4096x256, .bf16⟩
  | .local _ .vmem, ⟨19, _⟩ => ⟨S256x1024, .bf16⟩
  | .local _ .vmem, ⟨20, _⟩ => ⟨S128x1024, .f32⟩
  | .local _ .vmem, ⟨21, _⟩ => ⟨S128x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S8x128, .f32⟩
  | .local _ .vmem, ⟨27, _⟩ => ⟨S8x128, .f32⟩
  | .local _ .vmem, ⟨28, _⟩ => ⟨S8x1024, .f32⟩
  | .local _ .vmem, ⟨29, _⟩ => ⟨S8x1024, .f32⟩
  | .local _ .vmem, ⟨30, _⟩ => ⟨S144x1024, .f32⟩
  | .local _ .vmem, ⟨31, _⟩ => ⟨S8x128, .f32⟩
  | .local _ .vmem, ⟨32, _⟩ => ⟨S1x128, .i32⟩
  | _, _ => ⟨S8x32x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_scratch14 : Ref sig .tc := ⟨.vmem, 29, rfl⟩
abbrev cc0_scratch15 : Ref sig .tc := ⟨.vmem, 30, rfl⟩
abbrev cc0_scratch16 : Ref sig .tc := ⟨.vmem, 31, rfl⟩
abbrev cc0_scratch17 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 32], ![false, false]⟩

def k0_mult1 : BitVec 32 :=
  let c0_i32_13 : BitVec 32 := 0#32
  c0_i32_13
@[reducible] def k0_t1_loop (i : grid0.Coords) : Scf.Loop 32 :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_25 : BitVec 32 := 1#32
  ⟨c0_i32_23, v46, c1_i32_25⟩
def k0_mult2 (i : grid0.Coords) (k0_t1 : Fin (k0_t1_loop i).trips) : BitVec 32 :=
  let c2_i32_145 : BitVec 32 := 2#32
  let c0_i32_23 : BitVec 32 := 0#32
  let c1_i32_25 : BitVec 32 := 1#32
  let arg28 : BitVec 32 := Scf.iv c0_i32_23 c1_i32_25 k0_t1
  let v242 : BitVec 32 := Scalar.muli c2_i32_145 arg28
  let c1_i32_146 : BitVec 32 := 1#32
  let v243 : BitVec 32 := Scalar.addi v242 c1_i32_146
  let c128_i32_147 : BitVec 32 := 128#32
  let v244 : BitVec 32 := Scalar.muli v243 c128_i32_147
  v244
def k0_off1 (i : grid0.Coords) (k0_t1 : Fin (k0_t1_loop i).trips) : Fin 3 → Nat :=
  let c0_148 : Index := 0#32
  let c2_i32_145 : BitVec 32 := 2#32
  let c0_i32_23 : BitVec 32 := 0#32
  let c1_i32_25 : BitVec 32 := 1#32
  let arg28 : BitVec 32 := Scf.iv c0_i32_23 c1_i32_25 k0_t1
  let v242 : BitVec 32 := Scalar.muli c2_i32_145 arg28
  let c1_i32_146 : BitVec 32 := 1#32
  let v243 : BitVec 32 := Scalar.addi v242 c1_i32_146
  let c128_i32_147 : BitVec 32 := 128#32
  let v244 : BitVec 32 := Scalar.muli v243 c128_i32_147
  let v245 : BitVec 32 := v244
  let v246 : Index := Scalar.indexCast v245
  let c0_149 : Index := 0#32
  ![0, v246.toNat, 0]
def k0_mult3 (i : grid0.Coords) (k0_t1 : Fin (k0_t1_loop i).trips) : BitVec 32 :=
  let c2_i32_157 : BitVec 32 := 2#32
  let c0_i32_23 : BitVec 32 := 0#32
  let c1_i32_25 : BitVec 32 := 1#32
  let arg28 : BitVec 32 := Scf.iv c0_i32_23 c1_i32_25 k0_t1
  let v255 : BitVec 32 := Scalar.muli c2_i32_157 arg28
  let c128_i32_215 : BitVec 32 := 128#32
  let v321 : BitVec 32 := Scalar.muli v255 c128_i32_215
  v321
def k0_off2 (i : grid0.Coords) (k0_t1 : Fin (k0_t1_loop i).trips) : Fin 2 → Nat :=
  let c2_i32_157 : BitVec 32 := 2#32
  let c0_i32_23 : BitVec 32 := 0#32
  let c1_i32_25 : BitVec 32 := 1#32
  let arg28 : BitVec 32 := Scf.iv c0_i32_23 c1_i32_25 k0_t1
  let v255 : BitVec 32 := Scalar.muli c2_i32_157 arg28
  let c128_i32_215 : BitVec 32 := 128#32
  let v321 : BitVec 32 := Scalar.muli v255 c128_i32_215
  let v322 : BitVec 32 := v321
  let v334 : Index := Scalar.indexCast v322
  let c0_217 : Index := 0#32
  ![v334.toNat, 0]
def k0_mult4 (i : grid0.Coords) (k0_t1 : Fin (k0_t1_loop i).trips) : BitVec 32 :=
  let c2_i32_218 : BitVec 32 := 2#32
  let c0_i32_23 : BitVec 32 := 0#32
  let c1_i32_25 : BitVec 32 := 1#32
  let arg28 : BitVec 32 := Scf.iv c0_i32_23 c1_i32_25 k0_t1
  let v338 : BitVec 32 := Scalar.muli c2_i32_218 arg28
  let c2_i32_219 : BitVec 32 := 2#32
  let v339 : BitVec 32 := Scalar.addi v338 c2_i32_219
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let c2_i32_220 : BitVec 32 := 2#32
  let v340 : BitVec 32 := Scalar.subi v18 c2_i32_220
  let v341 : BitVec 32 := Scalar.minsi v339 v340
  let c128_i32_221 : BitVec 32 := 128#32
  let v342 : BitVec 32 := Scalar.muli v341 c128_i32_221
  v342
def k0_off3 (i : grid0.Coords) (k0_t1 : Fin (k0_t1_loop i).trips) : Fin 3 → Nat :=
  let c0_222 : Index := 0#32
  let c2_i32_218 : BitVec 32 := 2#32
  let c0_i32_23 : BitVec 32 := 0#32
  let c1_i32_25 : BitVec 32 := 1#32
  let arg28 : BitVec 32 := Scf.iv c0_i32_23 c1_i32_25 k0_t1
  let v338 : BitVec 32 := Scalar.muli c2_i32_218 arg28
  let c2_i32_219 : BitVec 32 := 2#32
  let v339 : BitVec 32 := Scalar.addi v338 c2_i32_219
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let c2_i32_220 : BitVec 32 := 2#32
  let v340 : BitVec 32 := Scalar.subi v18 c2_i32_220
  let v341 : BitVec 32 := Scalar.minsi v339 v340
  let c128_i32_221 : BitVec 32 := 128#32
  let v342 : BitVec 32 := Scalar.muli v341 c128_i32_221
  let v343 : BitVec 32 := v342
  let v344 : Index := Scalar.indexCast v343
  let c0_223 : Index := 0#32
  ![0, v344.toNat, 0]
def k0_mult5 (i : grid0.Coords) (k0_t1 : Fin (k0_t1_loop i).trips) : BitVec 32 :=
  let c2_i32_231 : BitVec 32 := 2#32
  let c0_i32_23 : BitVec 32 := 0#32
  let c1_i32_25 : BitVec 32 := 1#32
  let arg28 : BitVec 32 := Scf.iv c0_i32_23 c1_i32_25 k0_t1
  let v353 : BitVec 32 := Scalar.muli c2_i32_231 arg28
  let c1_i32_232 : BitVec 32 := 1#32
  let v354 : BitVec 32 := Scalar.addi v353 c1_i32_232
  let c128_i32_290 : BitVec 32 := 128#32
  let v420 : BitVec 32 := Scalar.muli v354 c128_i32_290
  v420
def k0_off4 (i : grid0.Coords) (k0_t1 : Fin (k0_t1_loop i).trips) : Fin 2 → Nat :=
  let c2_i32_231 : BitVec 32 := 2#32
  let c0_i32_23 : BitVec 32 := 0#32
  let c1_i32_25 : BitVec 32 := 1#32
  let arg28 : BitVec 32 := Scf.iv c0_i32_23 c1_i32_25 k0_t1
  let v353 : BitVec 32 := Scalar.muli c2_i32_231 arg28
  let c1_i32_232 : BitVec 32 := 1#32
  let v354 : BitVec 32 := Scalar.addi v353 c1_i32_232
  let c128_i32_290 : BitVec 32 := 128#32
  let v420 : BitVec 32 := Scalar.muli v354 c128_i32_290
  let v421 : BitVec 32 := v420
  let v433 : Index := Scalar.indexCast v421
  let c0_294 : Index := 0#32
  ![v433.toNat, 0]
def k0_mult6 (i : grid0.Coords) (k0_t1 : Fin (k0_t1_loop i).trips) : BitVec 32 :=
  let c0_i32_23 : BitVec 32 := 0#32
  let c1_i32_25 : BitVec 32 := 1#32
  let arg28 : BitVec 32 := Scf.iv c0_i32_23 c1_i32_25 k0_t1
  let c128_i32_295 : BitVec 32 := 128#32
  let v437 : BitVec 32 := Scalar.muli arg28 c128_i32_295
  v437
def k0_off5 (i : grid0.Coords) (k0_t1 : Fin (k0_t1_loop i).trips) : Fin 2 → Nat :=
  let c0_i32_23 : BitVec 32 := 0#32
  let c1_i32_25 : BitVec 32 := 1#32
  let arg28 : BitVec 32 := Scf.iv c0_i32_23 c1_i32_25 k0_t1
  let c128_i32_295 : BitVec 32 := 128#32
  let v437 : BitVec 32 := Scalar.muli arg28 c128_i32_295
  let v438 : BitVec 32 := v437
  let v444 : Index := Scalar.indexCast v438
  let c0_297 : Index := 0#32
  ![v444.toNat, 0]
@[reducible] def k0_t2_loop (i : grid0.Coords) : Scf.Loop 32 :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let v43 : BitVec 32 := Scalar.addi c0_i32_23 v42
  let c1_i32_26 : BitVec 32 := 1#32
  ⟨v46, v43, c1_i32_26⟩
def k0_mult7 (i : grid0.Coords) (k0_t2 : Fin (k0_t2_loop i).trips) : BitVec 32 :=
  let c2_i32_145 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v242 : BitVec 32 := Scalar.muli c2_i32_145 arg28
  let c1_i32_146 : BitVec 32 := 1#32
  let v243 : BitVec 32 := Scalar.addi v242 c1_i32_146
  let c128_i32_147 : BitVec 32 := 128#32
  let v244 : BitVec 32 := Scalar.muli v243 c128_i32_147
  v244
def k0_off6 (i : grid0.Coords) (k0_t2 : Fin (k0_t2_loop i).trips) : Fin 3 → Nat :=
  let c0_148 : Index := 0#32
  let c2_i32_145 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v242 : BitVec 32 := Scalar.muli c2_i32_145 arg28
  let c1_i32_146 : BitVec 32 := 1#32
  let v243 : BitVec 32 := Scalar.addi v242 c1_i32_146
  let c128_i32_147 : BitVec 32 := 128#32
  let v244 : BitVec 32 := Scalar.muli v243 c128_i32_147
  let v245 : BitVec 32 := v244
  let v246 : Index := Scalar.indexCast v245
  let c0_149 : Index := 0#32
  ![0, v246.toNat, 0]
def k0_mult8 (i : grid0.Coords) (k0_t2 : Fin (k0_t2_loop i).trips) : BitVec 32 :=
  let c2_i32_157 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v255 : BitVec 32 := Scalar.muli c2_i32_157 arg28
  let c128_i32_215 : BitVec 32 := 128#32
  let v321 : BitVec 32 := Scalar.muli v255 c128_i32_215
  v321
def k0_off7 (i : grid0.Coords) (k0_t2 : Fin (k0_t2_loop i).trips) : Fin 2 → Nat :=
  let c2_i32_157 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v255 : BitVec 32 := Scalar.muli c2_i32_157 arg28
  let c128_i32_215 : BitVec 32 := 128#32
  let v321 : BitVec 32 := Scalar.muli v255 c128_i32_215
  let v322 : BitVec 32 := v321
  let v334 : Index := Scalar.indexCast v322
  let c0_217 : Index := 0#32
  ![v334.toNat, 0]
def k0_mult9 (i : grid0.Coords) (k0_t2 : Fin (k0_t2_loop i).trips) : BitVec 32 :=
  let c2_i32_218 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v338 : BitVec 32 := Scalar.muli c2_i32_218 arg28
  let c2_i32_219 : BitVec 32 := 2#32
  let v339 : BitVec 32 := Scalar.addi v338 c2_i32_219
  let c2_i32_5 : BitVec 32 := 2#32
  let v18 : BitVec 32 := Scalar.muli c2_i32_5 v17
  let c2_i32_220 : BitVec 32 := 2#32
  let v340 : BitVec 32 := Scalar.subi v18 c2_i32_220
  let v341 : BitVec 32 := Scalar.minsi v339 v340
  let c128_i32_221 : BitVec 32 := 128#32
  let v342 : BitVec 32 := Scalar.muli v341 c128_i32_221
  v342
def k0_off8 (i : grid0.Coords) (k0_t2 : Fin (k0_t2_loop i).trips) : Fin 3 → Nat :=
  let c0_222 : Index := 0#32
  let c2_i32_218 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v338 : BitVec 32 := Scalar.muli c2_i32_218 arg28
  let c2_i32_219 : BitVec 32 := 2#32
  let v339 : BitVec 32 := Scalar.addi v338 c2_i32_219
  let c2_i32_5 : BitVec 32 := 2#32
  let v18 : BitVec 32 := Scalar.muli c2_i32_5 v17
  let c2_i32_220 : BitVec 32 := 2#32
  let v340 : BitVec 32 := Scalar.subi v18 c2_i32_220
  let v341 : BitVec 32 := Scalar.minsi v339 v340
  let c128_i32_221 : BitVec 32 := 128#32
  let v342 : BitVec 32 := Scalar.muli v341 c128_i32_221
  let v343 : BitVec 32 := v342
  let v344 : Index := Scalar.indexCast v343
  let c0_223 : Index := 0#32
  ![0, v344.toNat, 0]
def k0_mult10 (i : grid0.Coords) (k0_t2 : Fin (k0_t2_loop i).trips) : BitVec 32 :=
  let c2_i32_231 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v353 : BitVec 32 := Scalar.muli c2_i32_231 arg28
  let c1_i32_232 : BitVec 32 := 1#32
  let v354 : BitVec 32 := Scalar.addi v353 c1_i32_232
  let c128_i32_290 : BitVec 32 := 128#32
  let v420 : BitVec 32 := Scalar.muli v354 c128_i32_290
  v420
def k0_off9 (i : grid0.Coords) (k0_t2 : Fin (k0_t2_loop i).trips) : Fin 2 → Nat :=
  let c2_i32_231 : BitVec 32 := 2#32
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let v353 : BitVec 32 := Scalar.muli c2_i32_231 arg28
  let c1_i32_232 : BitVec 32 := 1#32
  let v354 : BitVec 32 := Scalar.addi v353 c1_i32_232
  let c128_i32_290 : BitVec 32 := 128#32
  let v420 : BitVec 32 := Scalar.muli v354 c128_i32_290
  let v421 : BitVec 32 := v420
  let v433 : Index := Scalar.indexCast v421
  let c0_294 : Index := 0#32
  ![v433.toNat, 0]
def k0_mult11 (i : grid0.Coords) (k0_t2 : Fin (k0_t2_loop i).trips) : BitVec 32 :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let c128_i32_295 : BitVec 32 := 128#32
  let v437 : BitVec 32 := Scalar.muli arg28 c128_i32_295
  v437
def k0_off10 (i : grid0.Coords) (k0_t2 : Fin (k0_t2_loop i).trips) : Fin 2 → Nat :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v42 : BitVec 32 := Scalar.subi v17 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg28 : BitVec 32 := Scf.iv v46 c1_i32_26 k0_t2
  let c128_i32_295 : BitVec 32 := 128#32
  let v437 : BitVec 32 := Scalar.muli arg28 c128_i32_295
  let v438 : BitVec 32 := v437
  let v444 : Index := Scalar.indexCast v438
  let c0_297 : Index := 0#32
  ![v444.toNat, 0]
def k0_cond2 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_27 : BitVec 32 := 1#32
  let v47 : BitVec 1 := Scalar.cmpi .eq v17 c1_i32_27
  let v48 : BitVec 32 := Scalar.extui v47
  let c0_i32_28 : BitVec 32 := 0#32
  let v49 : BitVec 1 := Scalar.cmpi .ne v48 c0_i32_28
  v49

@[reducible] def k0_t3_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
def k0_mult12 : BitVec 32 :=
  let c0_i32_151 : BitVec 32 := 0#32
  let c128_i32_152 : BitVec 32 := 128#32
  let v254 : BitVec 32 := Scalar.muli c0_i32_151 c128_i32_152
  v254
def k0_off11 : Fin 2 → Nat :=
  let c0_i32_151 : BitVec 32 := 0#32
  let c128_i32_152 : BitVec 32 := 128#32
  let v254 : BitVec 32 := Scalar.muli c0_i32_151 c128_i32_152
  let v255 : BitVec 32 := v254
  let v256 : Index := Scalar.indexCast v255
  let c0_153 : Index := 0#32
  ![v256.toNat, 0]
@[reducible] def k0_t4_loop : Scf.Loop 32 :=
  let c0_i32_159 : BitVec 32 := 0#32
  let c16_i32_160 : BitVec 32 := 16#32
  let v278 : BitVec 32 := Scalar.addi c0_i32_159 c16_i32_160
  let c1_i32_161 : BitVec 32 := 1#32
  ⟨c0_i32_159, v278, c1_i32_161⟩
def k0_cond3 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_29 : BitVec 32 := 2#32
  let v50 : BitVec 1 := Scalar.cmpi .eq v17 c2_i32_29
  let v51 : BitVec 32 := Scalar.extui v50
  let c0_i32_30 : BitVec 32 := 0#32
  let v52 : BitVec 1 := Scalar.cmpi .ne v51 c0_i32_30
  v52

@[reducible] def k0_t5_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t6_loop : Scf.Loop 32 :=
  let c0_i32_151 : BitVec 32 := 0#32
  let c2_i32_152 : BitVec 32 := 2#32
  let v254 : BitVec 32 := Scalar.addi c0_i32_151 c2_i32_152
  let c1_i32_153 : BitVec 32 := 1#32
  ⟨c0_i32_151, v254, c1_i32_153⟩
def k0_mult13 (k0_t6 : Fin k0_t6_loop.trips) : BitVec 32 :=
  let c0_i32_151 : BitVec 32 := 0#32
  let c1_i32_153 : BitVec 32 := 1#32
  let arg28 : BitVec 32 := Scf.iv c0_i32_151 c1_i32_153 k0_t6
  let c128_i32_165 : BitVec 32 := 128#32
  let v268 : BitVec 32 := Scalar.muli arg28 c128_i32_165
  v268
def k0_off12 (k0_t6 : Fin k0_t6_loop.trips) : Fin 2 → Nat :=
  let c0_i32_151 : BitVec 32 := 0#32
  let c1_i32_153 : BitVec 32 := 1#32
  let arg28 : BitVec 32 := Scf.iv c0_i32_151 c1_i32_153 k0_t6
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t7_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond4 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c3_i32 : BitVec 32 := 3#32
  let v53 : BitVec 1 := Scalar.cmpi .eq v17 c3_i32
  let v54 : BitVec 32 := Scalar.extui v53
  let c0_i32_31 : BitVec 32 := 0#32
  let v55 : BitVec 1 := Scalar.cmpi .ne v54 c0_i32_31
  v55

@[reducible] def k0_t8_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t9_loop : Scf.Loop 32 :=
  let c0_i32_151 : BitVec 32 := 0#32
  let c3_i32_152 : BitVec 32 := 3#32
  let v254 : BitVec 32 := Scalar.addi c0_i32_151 c3_i32_152
  let c1_i32_153 : BitVec 32 := 1#32
  ⟨c0_i32_151, v254, c1_i32_153⟩
def k0_mult14 (k0_t9 : Fin k0_t9_loop.trips) : BitVec 32 :=
  let c0_i32_151 : BitVec 32 := 0#32
  let c1_i32_153 : BitVec 32 := 1#32
  let arg28 : BitVec 32 := Scf.iv c0_i32_151 c1_i32_153 k0_t9
  let c128_i32_165 : BitVec 32 := 128#32
  let v268 : BitVec 32 := Scalar.muli arg28 c128_i32_165
  v268
def k0_off13 (k0_t9 : Fin k0_t9_loop.trips) : Fin 2 → Nat :=
  let c0_i32_151 : BitVec 32 := 0#32
  let c1_i32_153 : BitVec 32 := 1#32
  let arg28 : BitVec 32 := Scf.iv c0_i32_151 c1_i32_153 k0_t9
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t10_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond5 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c4_i32 : BitVec 32 := 4#32
  let v56 : BitVec 1 := Scalar.cmpi .eq v17 c4_i32
  let v57 : BitVec 32 := Scalar.extui v56
  let c0_i32_32 : BitVec 32 := 0#32
  let v58 : BitVec 1 := Scalar.cmpi .ne v57 c0_i32_32
  v58

@[reducible] def k0_t11_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t12_loop : Scf.Loop 32 :=
  let c0_i32_151 : BitVec 32 := 0#32
  let c4_i32_152 : BitVec 32 := 4#32
  let v254 : BitVec 32 := Scalar.addi c0_i32_151 c4_i32_152
  let c1_i32_153 : BitVec 32 := 1#32
  ⟨c0_i32_151, v254, c1_i32_153⟩
def k0_mult15 (k0_t12 : Fin k0_t12_loop.trips) : BitVec 32 :=
  let c0_i32_151 : BitVec 32 := 0#32
  let c1_i32_153 : BitVec 32 := 1#32
  let arg28 : BitVec 32 := Scf.iv c0_i32_151 c1_i32_153 k0_t12
  let c128_i32_165 : BitVec 32 := 128#32
  let v268 : BitVec 32 := Scalar.muli arg28 c128_i32_165
  v268
def k0_off14 (k0_t12 : Fin k0_t12_loop.trips) : Fin 2 → Nat :=
  let c0_i32_151 : BitVec 32 := 0#32
  let c1_i32_153 : BitVec 32 := 1#32
  let arg28 : BitVec 32 := Scf.iv c0_i32_151 c1_i32_153 k0_t12
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t13_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond6 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c5_i32 : BitVec 32 := 5#32
  let v59 : BitVec 1 := Scalar.cmpi .eq v17 c5_i32
  let v60 : BitVec 32 := Scalar.extui v59
  let c0_i32_33 : BitVec 32 := 0#32
  let v61 : BitVec 1 := Scalar.cmpi .ne v60 c0_i32_33
  v61

@[reducible] def k0_t14_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t15_loop : Scf.Loop 32 :=
  let c0_i32_151 : BitVec 32 := 0#32
  let c5_i32_152 : BitVec 32 := 5#32
  let v254 : BitVec 32 := Scalar.addi c0_i32_151 c5_i32_152
  let c1_i32_153 : BitVec 32 := 1#32
  ⟨c0_i32_151, v254, c1_i32_153⟩
def k0_mult16 (k0_t15 : Fin k0_t15_loop.trips) : BitVec 32 :=
  let c0_i32_151 : BitVec 32 := 0#32
  let c1_i32_153 : BitVec 32 := 1#32
  let arg28 : BitVec 32 := Scf.iv c0_i32_151 c1_i32_153 k0_t15
  let c128_i32_165 : BitVec 32 := 128#32
  let v268 : BitVec 32 := Scalar.muli arg28 c128_i32_165
  v268
def k0_off15 (k0_t15 : Fin k0_t15_loop.trips) : Fin 2 → Nat :=
  let c0_i32_151 : BitVec 32 := 0#32
  let c1_i32_153 : BitVec 32 := 1#32
  let arg28 : BitVec 32 := Scf.iv c0_i32_151 c1_i32_153 k0_t15
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t16_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond7 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c6_i32 : BitVec 32 := 6#32
  let v62 : BitVec 1 := Scalar.cmpi .eq v17 c6_i32
  let v63 : BitVec 32 := Scalar.extui v62
  let c0_i32_34 : BitVec 32 := 0#32
  let v64 : BitVec 1 := Scalar.cmpi .ne v63 c0_i32_34
  v64

@[reducible] def k0_t17_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t18_loop : Scf.Loop 32 :=
  let c0_i32_151 : BitVec 32 := 0#32
  let c6_i32_152 : BitVec 32 := 6#32
  let v254 : BitVec 32 := Scalar.addi c0_i32_151 c6_i32_152
  let c1_i32_153 : BitVec 32 := 1#32
  ⟨c0_i32_151, v254, c1_i32_153⟩
def k0_mult17 (k0_t18 : Fin k0_t18_loop.trips) : BitVec 32 :=
  let c0_i32_151 : BitVec 32 := 0#32
  let c1_i32_153 : BitVec 32 := 1#32
  let arg28 : BitVec 32 := Scf.iv c0_i32_151 c1_i32_153 k0_t18
  let c128_i32_165 : BitVec 32 := 128#32
  let v268 : BitVec 32 := Scalar.muli arg28 c128_i32_165
  v268
def k0_off16 (k0_t18 : Fin k0_t18_loop.trips) : Fin 2 → Nat :=
  let c0_i32_151 : BitVec 32 := 0#32
  let c1_i32_153 : BitVec 32 := 1#32
  let arg28 : BitVec 32 := Scf.iv c0_i32_151 c1_i32_153 k0_t18
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t19_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond8 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c7_i32 : BitVec 32 := 7#32
  let v65 : BitVec 1 := Scalar.cmpi .eq v17 c7_i32
  let v66 : BitVec 32 := Scalar.extui v65
  let c0_i32_35 : BitVec 32 := 0#32
  let v67 : BitVec 1 := Scalar.cmpi .ne v66 c0_i32_35
  v67

@[reducible] def k0_t20_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t21_loop : Scf.Loop 32 :=
  let c0_i32_151 : BitVec 32 := 0#32
  let c7_i32_152 : BitVec 32 := 7#32
  let v254 : BitVec 32 := Scalar.addi c0_i32_151 c7_i32_152
  let c1_i32_153 : BitVec 32 := 1#32
  ⟨c0_i32_151, v254, c1_i32_153⟩
def k0_mult18 (k0_t21 : Fin k0_t21_loop.trips) : BitVec 32 :=
  let c0_i32_151 : BitVec 32 := 0#32
  let c1_i32_153 : BitVec 32 := 1#32
  let arg28 : BitVec 32 := Scf.iv c0_i32_151 c1_i32_153 k0_t21
  let c128_i32_165 : BitVec 32 := 128#32
  let v268 : BitVec 32 := Scalar.muli arg28 c128_i32_165
  v268
def k0_off17 (k0_t21 : Fin k0_t21_loop.trips) : Fin 2 → Nat :=
  let c0_i32_151 : BitVec 32 := 0#32
  let c1_i32_153 : BitVec 32 := 1#32
  let arg28 : BitVec 32 := Scf.iv c0_i32_151 c1_i32_153 k0_t21
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t22_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond9 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c8_i32 : BitVec 32 := 8#32
  let v68 : BitVec 1 := Scalar.cmpi .eq v17 c8_i32
  let v69 : BitVec 32 := Scalar.extui v68
  let c0_i32_36 : BitVec 32 := 0#32
  let v70 : BitVec 1 := Scalar.cmpi .ne v69 c0_i32_36
  v70

@[reducible] def k0_t23_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t24_loop : Scf.Loop 32 :=
  let c0_i32_151 : BitVec 32 := 0#32
  let c8_i32_152 : BitVec 32 := 8#32
  let v254 : BitVec 32 := Scalar.addi c0_i32_151 c8_i32_152
  let c1_i32_153 : BitVec 32 := 1#32
  ⟨c0_i32_151, v254, c1_i32_153⟩
def k0_mult19 (k0_t24 : Fin k0_t24_loop.trips) : BitVec 32 :=
  let c0_i32_151 : BitVec 32 := 0#32
  let c1_i32_153 : BitVec 32 := 1#32
  let arg28 : BitVec 32 := Scf.iv c0_i32_151 c1_i32_153 k0_t24
  let c128_i32_165 : BitVec 32 := 128#32
  let v268 : BitVec 32 := Scalar.muli arg28 c128_i32_165
  v268
def k0_off18 (k0_t24 : Fin k0_t24_loop.trips) : Fin 2 → Nat :=
  let c0_i32_151 : BitVec 32 := 0#32
  let c1_i32_153 : BitVec 32 := 1#32
  let arg28 : BitVec 32 := Scf.iv c0_i32_151 c1_i32_153 k0_t24
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t25_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond10 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c9_i32 : BitVec 32 := 9#32
  let v71 : BitVec 1 := Scalar.cmpi .eq v17 c9_i32
  let v72 : BitVec 32 := Scalar.extui v71
  let c0_i32_37 : BitVec 32 := 0#32
  let v73 : BitVec 1 := Scalar.cmpi .ne v72 c0_i32_37
  v73

@[reducible] def k0_t26_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t27_loop : Scf.Loop 32 :=
  let c0_i32_151 : BitVec 32 := 0#32
  let c9_i32_152 : BitVec 32 := 9#32
  let v254 : BitVec 32 := Scalar.addi c0_i32_151 c9_i32_152
  let c1_i32_153 : BitVec 32 := 1#32
  ⟨c0_i32_151, v254, c1_i32_153⟩
def k0_mult20 (k0_t27 : Fin k0_t27_loop.trips) : BitVec 32 :=
  let c0_i32_151 : BitVec 32 := 0#32
  let c1_i32_153 : BitVec 32 := 1#32
  let arg28 : BitVec 32 := Scf.iv c0_i32_151 c1_i32_153 k0_t27
  let c128_i32_165 : BitVec 32 := 128#32
  let v268 : BitVec 32 := Scalar.muli arg28 c128_i32_165
  v268
def k0_off19 (k0_t27 : Fin k0_t27_loop.trips) : Fin 2 → Nat :=
  let c0_i32_151 : BitVec 32 := 0#32
  let c1_i32_153 : BitVec 32 := 1#32
  let arg28 : BitVec 32 := Scf.iv c0_i32_151 c1_i32_153 k0_t27
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t28_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond11 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c10_i32 : BitVec 32 := 10#32
  let v74 : BitVec 1 := Scalar.cmpi .eq v17 c10_i32
  let v75 : BitVec 32 := Scalar.extui v74
  let c0_i32_38 : BitVec 32 := 0#32
  let v76 : BitVec 1 := Scalar.cmpi .ne v75 c0_i32_38
  v76

@[reducible] def k0_t29_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t30_loop : Scf.Loop 32 :=
  let c0_i32_151 : BitVec 32 := 0#32
  let c10_i32_152 : BitVec 32 := 10#32
  let v254 : BitVec 32 := Scalar.addi c0_i32_151 c10_i32_152
  let c1_i32_153 : BitVec 32 := 1#32
  ⟨c0_i32_151, v254, c1_i32_153⟩
def k0_mult21 (k0_t30 : Fin k0_t30_loop.trips) : BitVec 32 :=
  let c0_i32_151 : BitVec 32 := 0#32
  let c1_i32_153 : BitVec 32 := 1#32
  let arg28 : BitVec 32 := Scf.iv c0_i32_151 c1_i32_153 k0_t30
  let c128_i32_165 : BitVec 32 := 128#32
  let v268 : BitVec 32 := Scalar.muli arg28 c128_i32_165
  v268
def k0_off20 (k0_t30 : Fin k0_t30_loop.trips) : Fin 2 → Nat :=
  let c0_i32_151 : BitVec 32 := 0#32
  let c1_i32_153 : BitVec 32 := 1#32
  let arg28 : BitVec 32 := Scf.iv c0_i32_151 c1_i32_153 k0_t30
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t31_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond12 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c11_i32 : BitVec 32 := 11#32
  let v77 : BitVec 1 := Scalar.cmpi .eq v17 c11_i32
  let v78 : BitVec 32 := Scalar.extui v77
  let c0_i32_39 : BitVec 32 := 0#32
  let v79 : BitVec 1 := Scalar.cmpi .ne v78 c0_i32_39
  v79

@[reducible] def k0_t32_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t33_loop : Scf.Loop 32 :=
  let c0_i32_151 : BitVec 32 := 0#32
  let c11_i32_152 : BitVec 32 := 11#32
  let v254 : BitVec 32 := Scalar.addi c0_i32_151 c11_i32_152
  let c1_i32_153 : BitVec 32 := 1#32
  ⟨c0_i32_151, v254, c1_i32_153⟩
def k0_mult22 (k0_t33 : Fin k0_t33_loop.trips) : BitVec 32 :=
  let c0_i32_151 : BitVec 32 := 0#32
  let c1_i32_153 : BitVec 32 := 1#32
  let arg28 : BitVec 32 := Scf.iv c0_i32_151 c1_i32_153 k0_t33
  let c128_i32_165 : BitVec 32 := 128#32
  let v268 : BitVec 32 := Scalar.muli arg28 c128_i32_165
  v268
def k0_off21 (k0_t33 : Fin k0_t33_loop.trips) : Fin 2 → Nat :=
  let c0_i32_151 : BitVec 32 := 0#32
  let c1_i32_153 : BitVec 32 := 1#32
  let arg28 : BitVec 32 := Scf.iv c0_i32_151 c1_i32_153 k0_t33
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t34_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond13 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c12_i32 : BitVec 32 := 12#32
  let v80 : BitVec 1 := Scalar.cmpi .eq v17 c12_i32
  let v81 : BitVec 32 := Scalar.extui v80
  let c0_i32_40 : BitVec 32 := 0#32
  let v82 : BitVec 1 := Scalar.cmpi .ne v81 c0_i32_40
  v82

@[reducible] def k0_t35_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t36_loop : Scf.Loop 32 :=
  let c0_i32_151 : BitVec 32 := 0#32
  let c12_i32_152 : BitVec 32 := 12#32
  let v254 : BitVec 32 := Scalar.addi c0_i32_151 c12_i32_152
  let c1_i32_153 : BitVec 32 := 1#32
  ⟨c0_i32_151, v254, c1_i32_153⟩
def k0_mult23 (k0_t36 : Fin k0_t36_loop.trips) : BitVec 32 :=
  let c0_i32_151 : BitVec 32 := 0#32
  let c1_i32_153 : BitVec 32 := 1#32
  let arg28 : BitVec 32 := Scf.iv c0_i32_151 c1_i32_153 k0_t36
  let c128_i32_165 : BitVec 32 := 128#32
  let v268 : BitVec 32 := Scalar.muli arg28 c128_i32_165
  v268
def k0_off22 (k0_t36 : Fin k0_t36_loop.trips) : Fin 2 → Nat :=
  let c0_i32_151 : BitVec 32 := 0#32
  let c1_i32_153 : BitVec 32 := 1#32
  let arg28 : BitVec 32 := Scf.iv c0_i32_151 c1_i32_153 k0_t36
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t37_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond14 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c13_i32 : BitVec 32 := 13#32
  let v83 : BitVec 1 := Scalar.cmpi .eq v17 c13_i32
  let v84 : BitVec 32 := Scalar.extui v83
  let c0_i32_41 : BitVec 32 := 0#32
  let v85 : BitVec 1 := Scalar.cmpi .ne v84 c0_i32_41
  v85

@[reducible] def k0_t38_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t39_loop : Scf.Loop 32 :=
  let c0_i32_151 : BitVec 32 := 0#32
  let c13_i32_152 : BitVec 32 := 13#32
  let v254 : BitVec 32 := Scalar.addi c0_i32_151 c13_i32_152
  let c1_i32_153 : BitVec 32 := 1#32
  ⟨c0_i32_151, v254, c1_i32_153⟩
def k0_mult24 (k0_t39 : Fin k0_t39_loop.trips) : BitVec 32 :=
  let c0_i32_151 : BitVec 32 := 0#32
  let c1_i32_153 : BitVec 32 := 1#32
  let arg28 : BitVec 32 := Scf.iv c0_i32_151 c1_i32_153 k0_t39
  let c128_i32_165 : BitVec 32 := 128#32
  let v268 : BitVec 32 := Scalar.muli arg28 c128_i32_165
  v268
def k0_off23 (k0_t39 : Fin k0_t39_loop.trips) : Fin 2 → Nat :=
  let c0_i32_151 : BitVec 32 := 0#32
  let c1_i32_153 : BitVec 32 := 1#32
  let arg28 : BitVec 32 := Scf.iv c0_i32_151 c1_i32_153 k0_t39
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t40_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond15 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c14_i32 : BitVec 32 := 14#32
  let v86 : BitVec 1 := Scalar.cmpi .eq v17 c14_i32
  let v87 : BitVec 32 := Scalar.extui v86
  let c0_i32_42 : BitVec 32 := 0#32
  let v88 : BitVec 1 := Scalar.cmpi .ne v87 c0_i32_42
  v88

@[reducible] def k0_t41_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t42_loop : Scf.Loop 32 :=
  let c0_i32_151 : BitVec 32 := 0#32
  let c14_i32_152 : BitVec 32 := 14#32
  let v254 : BitVec 32 := Scalar.addi c0_i32_151 c14_i32_152
  let c1_i32_153 : BitVec 32 := 1#32
  ⟨c0_i32_151, v254, c1_i32_153⟩
def k0_mult25 (k0_t42 : Fin k0_t42_loop.trips) : BitVec 32 :=
  let c0_i32_151 : BitVec 32 := 0#32
  let c1_i32_153 : BitVec 32 := 1#32
  let arg28 : BitVec 32 := Scf.iv c0_i32_151 c1_i32_153 k0_t42
  let c128_i32_165 : BitVec 32 := 128#32
  let v268 : BitVec 32 := Scalar.muli arg28 c128_i32_165
  v268
def k0_off24 (k0_t42 : Fin k0_t42_loop.trips) : Fin 2 → Nat :=
  let c0_i32_151 : BitVec 32 := 0#32
  let c1_i32_153 : BitVec 32 := 1#32
  let arg28 : BitVec 32 := Scf.iv c0_i32_151 c1_i32_153 k0_t42
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t43_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond16 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c15_i32 : BitVec 32 := 15#32
  let v89 : BitVec 1 := Scalar.cmpi .eq v17 c15_i32
  let v90 : BitVec 32 := Scalar.extui v89
  let c0_i32_43 : BitVec 32 := 0#32
  let v91 : BitVec 1 := Scalar.cmpi .ne v90 c0_i32_43
  v91

@[reducible] def k0_t44_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t45_loop : Scf.Loop 32 :=
  let c0_i32_151 : BitVec 32 := 0#32
  let c15_i32_152 : BitVec 32 := 15#32
  let v254 : BitVec 32 := Scalar.addi c0_i32_151 c15_i32_152
  let c1_i32_153 : BitVec 32 := 1#32
  ⟨c0_i32_151, v254, c1_i32_153⟩
def k0_mult26 (k0_t45 : Fin k0_t45_loop.trips) : BitVec 32 :=
  let c0_i32_151 : BitVec 32 := 0#32
  let c1_i32_153 : BitVec 32 := 1#32
  let arg28 : BitVec 32 := Scf.iv c0_i32_151 c1_i32_153 k0_t45
  let c128_i32_165 : BitVec 32 := 128#32
  let v268 : BitVec 32 := Scalar.muli arg28 c128_i32_165
  v268
def k0_off25 (k0_t45 : Fin k0_t45_loop.trips) : Fin 2 → Nat :=
  let c0_i32_151 : BitVec 32 := 0#32
  let c1_i32_153 : BitVec 32 := 1#32
  let arg28 : BitVec 32 := Scf.iv c0_i32_151 c1_i32_153 k0_t45
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t46_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
def k0_cond17 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c16_i32 : BitVec 32 := 16#32
  let v92 : BitVec 1 := Scalar.cmpi .eq v17 c16_i32
  let v93 : BitVec 32 := Scalar.extui v92
  let c0_i32_44 : BitVec 32 := 0#32
  let v94 : BitVec 1 := Scalar.cmpi .ne v93 c0_i32_44
  v94

@[reducible] def k0_t47_loop : Scf.Loop 32 :=
  let c0_i32_146 : BitVec 32 := 0#32
  let c16_i32_147 : BitVec 32 := 16#32
  let v244 : BitVec 32 := Scalar.addi c0_i32_146 c16_i32_147
  let c1_i32_148 : BitVec 32 := 1#32
  ⟨c0_i32_146, v244, c1_i32_148⟩
@[reducible] def k0_t48_loop : Scf.Loop 32 :=
  let c0_i32_151 : BitVec 32 := 0#32
  let c16_i32_152 : BitVec 32 := 16#32
  let v254 : BitVec 32 := Scalar.addi c0_i32_151 c16_i32_152
  let c1_i32_153 : BitVec 32 := 1#32
  ⟨c0_i32_151, v254, c1_i32_153⟩
def k0_mult27 (k0_t48 : Fin k0_t48_loop.trips) : BitVec 32 :=
  let c0_i32_151 : BitVec 32 := 0#32
  let c1_i32_153 : BitVec 32 := 1#32
  let arg28 : BitVec 32 := Scf.iv c0_i32_151 c1_i32_153 k0_t48
  let c128_i32_165 : BitVec 32 := 128#32
  let v268 : BitVec 32 := Scalar.muli arg28 c128_i32_165
  v268
def k0_off26 (k0_t48 : Fin k0_t48_loop.trips) : Fin 2 → Nat :=
  let c0_i32_151 : BitVec 32 := 0#32
  let c1_i32_153 : BitVec 32 := 1#32
  let arg28 : BitVec 32 := Scf.iv c0_i32_151 c1_i32_153 k0_t48
  let c128_i32_165 : BitVec 32 := 128#32
  let v268 : BitVec 32 := Scalar.muli arg28 c128_i32_165
  let v269 : BitVec 32 := v268
  let v270 : Index := Scalar.indexCast v269
  let c0_166 : Index := 0#32
  ![v270.toNat, 0]
@[reducible] def k0_t49_loop : Scf.Loop 32 :=
  let c0_i32_157 : BitVec 32 := 0#32
  let c16_i32_158 : BitVec 32 := 16#32
  let v258 : BitVec 32 := Scalar.addi c0_i32_157 c16_i32_158
  let c1_i32_159 : BitVec 32 := 1#32
  ⟨c0_i32_157, v258, c1_i32_159⟩
@[reducible] def k0_t50_loop (i : grid0.Coords) : Scf.Loop 32 :=
  let c0_i32_48 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v99 : BitVec 32 := Scalar.subi v18 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_50 : BitVec 32 := 1#32
  ⟨c0_i32_48, v103, c1_i32_50⟩
def k0_mult28 (i : grid0.Coords) (k0_t50 : Fin (k0_t50_loop i).trips) : BitVec 32 :=
  let c0_i32_48 : BitVec 32 := 0#32
  let c1_i32_50 : BitVec 32 := 1#32
  let arg28 : BitVec 32 := Scf.iv c0_i32_48 c1_i32_50 k0_t50
  let c128_i32_145 : BitVec 32 := 128#32
  let v242 : BitVec 32 := Scalar.muli arg28 c128_i32_145
  v242
def k0_off27 (i : grid0.Coords) (k0_t50 : Fin (k0_t50_loop i).trips) : Fin 2 → Nat :=
  let c0_i32_48 : BitVec 32 := 0#32
  let c1_i32_50 : BitVec 32 := 1#32
  let arg28 : BitVec 32 := Scf.iv c0_i32_48 c1_i32_50 k0_t50
  let c128_i32_145 : BitVec 32 := 128#32
  let v242 : BitVec 32 := Scalar.muli arg28 c128_i32_145
  let v243 : BitVec 32 := v242
  let v244 : Index := Scalar.indexCast v243
  let c0_146 : Index := 0#32
  ![v244.toNat, 0]
def k0_off28 (i : grid0.Coords) (k0_t50 : Fin (k0_t50_loop i).trips) : Fin 2 → Nat :=
  let c0_i32_48 : BitVec 32 := 0#32
  let c1_i32_50 : BitVec 32 := 1#32
  let arg28 : BitVec 32 := Scf.iv c0_i32_48 c1_i32_50 k0_t50
  let c128_i32_145 : BitVec 32 := 128#32
  let v242 : BitVec 32 := Scalar.muli arg28 c128_i32_145
  let v243 : BitVec 32 := v242
  let v252 : Index := Scalar.indexCast v243
  let c128_149 : Index := 128#32
  ![v252.toNat, 128]
@[reducible] def k0_t51_loop (i : grid0.Coords) : Scf.Loop 32 :=
  let c0_i32_48 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v99 : BitVec 32 := Scalar.subi v18 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let v100 : BitVec 32 := Scalar.addi c0_i32_48 v99
  let c1_i32_51 : BitVec 32 := 1#32
  ⟨v103, v100, c1_i32_51⟩
def k0_mult29 (i : grid0.Coords) (k0_t51 : Fin (k0_t51_loop i).trips) : BitVec 32 :=
  let c0_i32_48 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v99 : BitVec 32 := Scalar.subi v18 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg28 : BitVec 32 := Scf.iv v103 c1_i32_51 k0_t51
  let c128_i32_145 : BitVec 32 := 128#32
  let v242 : BitVec 32 := Scalar.muli arg28 c128_i32_145
  v242
def k0_off29 (i : grid0.Coords) (k0_t51 : Fin (k0_t51_loop i).trips) : Fin 2 → Nat :=
  let c0_i32_48 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v99 : BitVec 32 := Scalar.subi v18 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg28 : BitVec 32 := Scf.iv v103 c1_i32_51 k0_t51
  let c128_i32_145 : BitVec 32 := 128#32
  let v242 : BitVec 32 := Scalar.muli arg28 c128_i32_145
  let v243 : BitVec 32 := v242
  let v244 : Index := Scalar.indexCast v243
  let c0_146 : Index := 0#32
  ![v244.toNat, 0]
def k0_off30 (i : grid0.Coords) (k0_t51 : Fin (k0_t51_loop i).trips) : Fin 2 → Nat :=
  let c0_i32_48 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v99 : BitVec 32 := Scalar.subi v18 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg28 : BitVec 32 := Scf.iv v103 c1_i32_51 k0_t51
  let c128_i32_145 : BitVec 32 := 128#32
  let v242 : BitVec 32 := Scalar.muli arg28 c128_i32_145
  let v243 : BitVec 32 := v242
  let v252 : Index := Scalar.indexCast v243
  let c128_149 : Index := 128#32
  ![v252.toNat, 128]
@[reducible] def k0_t52_loop (i : grid0.Coords) : Scf.Loop 32 :=
  let c0_i32_146 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v243 : BitVec 32 := Scalar.subi v18 c0_i32_146
  let c1_i32_147 : BitVec 32 := 1#32
  let v245 : BitVec 32 := Scalar.divsi v243 c1_i32_147
  let v246 : BitVec 32 := Scalar.muli v245 c1_i32_147
  let v247 : BitVec 32 := Scalar.addi c0_i32_146 v246
  let c1_i32_148 : BitVec 32 := 1#32
  ⟨c0_i32_146, v247, c1_i32_148⟩
def k0_mult30 (i : grid0.Coords) (k0_t52 : Fin (k0_t52_loop i).trips) : BitVec 32 :=
  let c0_i32_146 : BitVec 32 := 0#32
  let c1_i32_148 : BitVec 32 := 1#32
  let arg28 : BitVec 32 := Scf.iv c0_i32_146 c1_i32_148 k0_t52
  let c128_i32_162 : BitVec 32 := 128#32
  let v262 : BitVec 32 := Scalar.muli arg28 c128_i32_162
  v262
def k0_off31 (i : grid0.Coords) (k0_t52 : Fin (k0_t52_loop i).trips) : Fin 2 → Nat :=
  let c0_i32_146 : BitVec 32 := 0#32
  let c1_i32_148 : BitVec 32 := 1#32
  let arg28 : BitVec 32 := Scf.iv c0_i32_146 c1_i32_148 k0_t52
  let c128_i32_162 : BitVec 32 := 128#32
  let v262 : BitVec 32 := Scalar.muli arg28 c128_i32_162
  let v263 : BitVec 32 := v262
  let v266 : Index := Scalar.indexCast v263
  let c0_163 : Index := 0#32
  ![v266.toNat, 0]
@[reducible] def k0_t53_loop (i : grid0.Coords) : Scf.Loop 32 :=
  let c0_i32_146 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v243 : BitVec 32 := Scalar.subi v18 c0_i32_146
  let c1_i32_147 : BitVec 32 := 1#32
  let v245 : BitVec 32 := Scalar.divsi v243 c1_i32_147
  let v246 : BitVec 32 := Scalar.muli v245 c1_i32_147
  let v247 : BitVec 32 := Scalar.addi c0_i32_146 v246
  let v244 : BitVec 32 := Scalar.addi c0_i32_146 v243
  let c1_i32_149 : BitVec 32 := 1#32
  ⟨v247, v244, c1_i32_149⟩
def k0_mult31 (i : grid0.Coords) (k0_t53 : Fin (k0_t53_loop i).trips) : BitVec 32 :=
  let c0_i32_146 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v243 : BitVec 32 := Scalar.subi v18 c0_i32_146
  let c1_i32_147 : BitVec 32 := 1#32
  let v245 : BitVec 32 := Scalar.divsi v243 c1_i32_147
  let v246 : BitVec 32 := Scalar.muli v245 c1_i32_147
  let v247 : BitVec 32 := Scalar.addi c0_i32_146 v246
  let c1_i32_149 : BitVec 32 := 1#32
  let arg28 : BitVec 32 := Scf.iv v247 c1_i32_149 k0_t53
  let c128_i32_162 : BitVec 32 := 128#32
  let v262 : BitVec 32 := Scalar.muli arg28 c128_i32_162
  v262
def k0_off32 (i : grid0.Coords) (k0_t53 : Fin (k0_t53_loop i).trips) : Fin 2 → Nat :=
  let c0_i32_146 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v243 : BitVec 32 := Scalar.subi v18 c0_i32_146
  let c1_i32_147 : BitVec 32 := 1#32
  let v245 : BitVec 32 := Scalar.divsi v243 c1_i32_147
  let v246 : BitVec 32 := Scalar.muli v245 c1_i32_147
  let v247 : BitVec 32 := Scalar.addi c0_i32_146 v246
  let c1_i32_149 : BitVec 32 := 1#32
  let arg28 : BitVec 32 := Scf.iv v247 c1_i32_149 k0_t53
  let c128_i32_162 : BitVec 32 := 128#32
  let v262 : BitVec 32 := Scalar.muli arg28 c128_i32_162
  let v263 : BitVec 32 := v262
  let v266 : Index := Scalar.indexCast v263
  let c0_163 : Index := 0#32
  ![v266.toNat, 0]
@[reducible] def k0_t54_loop : Scf.Loop 32 :=
  let c0_i32_153 : BitVec 32 := 0#32
  let c12_i32_154 : BitVec 32 := 12#32
  let v255 : BitVec 32 := Scalar.addi c0_i32_153 c12_i32_154
  let c1_i32_155 : BitVec 32 := 1#32
  ⟨c0_i32_153, v255, c1_i32_155⟩
@[reducible] def k0_t55_loop (i : grid0.Coords) : Scf.Loop 32 :=
  let c0_i32_165 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v267 : BitVec 32 := Scalar.subi v18 c0_i32_165
  let c1_i32_166 : BitVec 32 := 1#32
  let v269 : BitVec 32 := Scalar.divsi v267 c1_i32_166
  let v270 : BitVec 32 := Scalar.muli v269 c1_i32_166
  let v271 : BitVec 32 := Scalar.addi c0_i32_165 v270
  let c1_i32_167 : BitVec 32 := 1#32
  ⟨c0_i32_165, v271, c1_i32_167⟩
def k0_mult32 (i : grid0.Coords) (k0_t55 : Fin (k0_t55_loop i).trips) : BitVec 32 :=
  let c0_i32_165 : BitVec 32 := 0#32
  let c1_i32_167 : BitVec 32 := 1#32
  let arg30 : BitVec 32 := Scf.iv c0_i32_165 c1_i32_167 k0_t55
  let c128_i32_170 : BitVec 32 := 128#32
  let v278 : BitVec 32 := Scalar.muli arg30 c128_i32_170
  v278
def k0_off33 (i : grid0.Coords) (k0_t55 : Fin (k0_t55_loop i).trips) : Fin 2 → Nat :=
  let c0_i32_165 : BitVec 32 := 0#32
  let c1_i32_167 : BitVec 32 := 1#32
  let arg30 : BitVec 32 := Scf.iv c0_i32_165 c1_i32_167 k0_t55
  let c128_i32_170 : BitVec 32 := 128#32
  let v278 : BitVec 32 := Scalar.muli arg30 c128_i32_170
  let v279 : BitVec 32 := v278
  let v282 : Index := Scalar.indexCast v279
  let c0_171 : Index := 0#32
  ![v282.toNat, 0]
@[reducible] def k0_t56_loop (i : grid0.Coords) : Scf.Loop 32 :=
  let c0_i32_165 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v267 : BitVec 32 := Scalar.subi v18 c0_i32_165
  let c1_i32_166 : BitVec 32 := 1#32
  let v269 : BitVec 32 := Scalar.divsi v267 c1_i32_166
  let v270 : BitVec 32 := Scalar.muli v269 c1_i32_166
  let v271 : BitVec 32 := Scalar.addi c0_i32_165 v270
  let v268 : BitVec 32 := Scalar.addi c0_i32_165 v267
  let c1_i32_168 : BitVec 32 := 1#32
  ⟨v271, v268, c1_i32_168⟩
def k0_mult33 (i : grid0.Coords) (k0_t56 : Fin (k0_t56_loop i).trips) : BitVec 32 :=
  let c0_i32_165 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v267 : BitVec 32 := Scalar.subi v18 c0_i32_165
  let c1_i32_166 : BitVec 32 := 1#32
  let v269 : BitVec 32 := Scalar.divsi v267 c1_i32_166
  let v270 : BitVec 32 := Scalar.muli v269 c1_i32_166
  let v271 : BitVec 32 := Scalar.addi c0_i32_165 v270
  let c1_i32_168 : BitVec 32 := 1#32
  let arg30 : BitVec 32 := Scf.iv v271 c1_i32_168 k0_t56
  let c128_i32_170 : BitVec 32 := 128#32
  let v278 : BitVec 32 := Scalar.muli arg30 c128_i32_170
  v278
def k0_off34 (i : grid0.Coords) (k0_t56 : Fin (k0_t56_loop i).trips) : Fin 2 → Nat :=
  let c0_i32_165 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v267 : BitVec 32 := Scalar.subi v18 c0_i32_165
  let c1_i32_166 : BitVec 32 := 1#32
  let v269 : BitVec 32 := Scalar.divsi v267 c1_i32_166
  let v270 : BitVec 32 := Scalar.muli v269 c1_i32_166
  let v271 : BitVec 32 := Scalar.addi c0_i32_165 v270
  let c1_i32_168 : BitVec 32 := 1#32
  let arg30 : BitVec 32 := Scf.iv v271 c1_i32_168 k0_t56
  let c128_i32_170 : BitVec 32 := 128#32
  let v278 : BitVec 32 := Scalar.muli arg30 c128_i32_170
  let v279 : BitVec 32 := v278
  let v282 : Index := Scalar.indexCast v279
  let c0_171 : Index := 0#32
  ![v282.toNat, 0]
@[reducible] def k0_t57_loop (i : grid0.Coords) : Scf.Loop 32 :=
  let c0_i32_158 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v257 : BitVec 32 := Scalar.subi v18 c0_i32_158
  let c1_i32_159 : BitVec 32 := 1#32
  let v259 : BitVec 32 := Scalar.divsi v257 c1_i32_159
  let v260 : BitVec 32 := Scalar.muli v259 c1_i32_159
  let v261 : BitVec 32 := Scalar.addi c0_i32_158 v260
  let c1_i32_160 : BitVec 32 := 1#32
  ⟨c0_i32_158, v261, c1_i32_160⟩
def k0_mult34 (i : grid0.Coords) (k0_t57 : Fin (k0_t57_loop i).trips) : BitVec 32 :=
  let c0_i32_158 : BitVec 32 := 0#32
  let c1_i32_160 : BitVec 32 := 1#32
  let arg28 : BitVec 32 := Scf.iv c0_i32_158 c1_i32_160 k0_t57
  let c128_i32_162 : BitVec 32 := 128#32
  let v262 : BitVec 32 := Scalar.muli arg28 c128_i32_162
  v262
def k0_off35 (i : grid0.Coords) (k0_t57 : Fin (k0_t57_loop i).trips) : Fin 2 → Nat :=
  let c0_i32_158 : BitVec 32 := 0#32
  let c1_i32_160 : BitVec 32 := 1#32
  let arg28 : BitVec 32 := Scf.iv c0_i32_158 c1_i32_160 k0_t57
  let c128_i32_162 : BitVec 32 := 128#32
  let v262 : BitVec 32 := Scalar.muli arg28 c128_i32_162
  let v263 : BitVec 32 := v262
  let v264 : Index := Scalar.indexCast v263
  let c0_163 : Index := 0#32
  ![v264.toNat, 0]
def k0_off36 (i : grid0.Coords) (k0_t57 : Fin (k0_t57_loop i).trips) : Fin 2 → Nat :=
  let c0_i32_158 : BitVec 32 := 0#32
  let c1_i32_160 : BitVec 32 := 1#32
  let arg28 : BitVec 32 := Scf.iv c0_i32_158 c1_i32_160 k0_t57
  let c128_i32_162 : BitVec 32 := 128#32
  let v262 : BitVec 32 := Scalar.muli arg28 c128_i32_162
  let v263 : BitVec 32 := v262
  let v272 : Index := Scalar.indexCast v263
  let c128_165 : Index := 128#32
  ![v272.toNat, 128]
@[reducible] def k0_t58_loop (i : grid0.Coords) : Scf.Loop 32 :=
  let c0_i32_158 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v257 : BitVec 32 := Scalar.subi v18 c0_i32_158
  let c1_i32_159 : BitVec 32 := 1#32
  let v259 : BitVec 32 := Scalar.divsi v257 c1_i32_159
  let v260 : BitVec 32 := Scalar.muli v259 c1_i32_159
  let v261 : BitVec 32 := Scalar.addi c0_i32_158 v260
  let v258 : BitVec 32 := Scalar.addi c0_i32_158 v257
  let c1_i32_161 : BitVec 32 := 1#32
  ⟨v261, v258, c1_i32_161⟩
def k0_mult35 (i : grid0.Coords) (k0_t58 : Fin (k0_t58_loop i).trips) : BitVec 32 :=
  let c0_i32_158 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v257 : BitVec 32 := Scalar.subi v18 c0_i32_158
  let c1_i32_159 : BitVec 32 := 1#32
  let v259 : BitVec 32 := Scalar.divsi v257 c1_i32_159
  let v260 : BitVec 32 := Scalar.muli v259 c1_i32_159
  let v261 : BitVec 32 := Scalar.addi c0_i32_158 v260
  let c1_i32_161 : BitVec 32 := 1#32
  let arg28 : BitVec 32 := Scf.iv v261 c1_i32_161 k0_t58
  let c128_i32_162 : BitVec 32 := 128#32
  let v262 : BitVec 32 := Scalar.muli arg28 c128_i32_162
  v262
def k0_off37 (i : grid0.Coords) (k0_t58 : Fin (k0_t58_loop i).trips) : Fin 2 → Nat :=
  let c0_i32_158 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v257 : BitVec 32 := Scalar.subi v18 c0_i32_158
  let c1_i32_159 : BitVec 32 := 1#32
  let v259 : BitVec 32 := Scalar.divsi v257 c1_i32_159
  let v260 : BitVec 32 := Scalar.muli v259 c1_i32_159
  let v261 : BitVec 32 := Scalar.addi c0_i32_158 v260
  let c1_i32_161 : BitVec 32 := 1#32
  let arg28 : BitVec 32 := Scf.iv v261 c1_i32_161 k0_t58
  let c128_i32_162 : BitVec 32 := 128#32
  let v262 : BitVec 32 := Scalar.muli arg28 c128_i32_162
  let v263 : BitVec 32 := v262
  let v264 : Index := Scalar.indexCast v263
  let c0_163 : Index := 0#32
  ![v264.toNat, 0]
def k0_off38 (i : grid0.Coords) (k0_t58 : Fin (k0_t58_loop i).trips) : Fin 2 → Nat :=
  let c0_i32_158 : BitVec 32 := 0#32
  let c2_i32_5 : BitVec 32 := 2#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v18 : BitVec 32 := Scalar.muli c2_i32_5 v17
  let v257 : BitVec 32 := Scalar.subi v18 c0_i32_158
  let c1_i32_159 : BitVec 32 := 1#32
  let v259 : BitVec 32 := Scalar.divsi v257 c1_i32_159
  let v260 : BitVec 32 := Scalar.muli v259 c1_i32_159
  let v261 : BitVec 32 := Scalar.addi c0_i32_158 v260
  let c1_i32_161 : BitVec 32 := 1#32
  let arg28 : BitVec 32 := Scf.iv v261 c1_i32_161 k0_t58
  let c128_i32_162 : BitVec 32 := 128#32
  let v262 : BitVec 32 := Scalar.muli arg28 c128_i32_162
  let v263 : BitVec 32 := v262
  let v272 : Index := Scalar.indexCast v263
  let c128_165 : Index := 128#32
  ![v272.toNat, 128]
def k0_mult36 : BitVec 32 :=
  let c0_i32_61 : BitVec 32 := 0#32
  c0_i32_61
@[reducible] def k0_t59_loop (i : grid0.Coords) : Scf.Loop 32 :=
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_82 : BitVec 32 := 1#32
  ⟨c0_i32_80, v158, c1_i32_82⟩
def k0_mult37 (i : grid0.Coords) (k0_t59 : Fin (k0_t59_loop i).trips) : BitVec 32 :=
  let c2_i32_145 : BitVec 32 := 2#32
  let c0_i32_80 : BitVec 32 := 0#32
  let c1_i32_82 : BitVec 32 := 1#32
  let arg28 : BitVec 32 := Scf.iv c0_i32_80 c1_i32_82 k0_t59
  let v242 : BitVec 32 := Scalar.muli c2_i32_145 arg28
  let c1_i32_146 : BitVec 32 := 1#32
  let v243 : BitVec 32 := Scalar.addi v242 c1_i32_146
  let c256_i32_147 : BitVec 32 := 256#32
  let v244 : BitVec 32 := Scalar.muli v243 c256_i32_147
  v244
def k0_off39 (i : grid0.Coords) (k0_t59 : Fin (k0_t59_loop i).trips) : Fin 2 → Nat :=
  let c2_i32_145 : BitVec 32 := 2#32
  let c0_i32_80 : BitVec 32 := 0#32
  let c1_i32_82 : BitVec 32 := 1#32
  let arg28 : BitVec 32 := Scf.iv c0_i32_80 c1_i32_82 k0_t59
  let v242 : BitVec 32 := Scalar.muli c2_i32_145 arg28
  let c1_i32_146 : BitVec 32 := 1#32
  let v243 : BitVec 32 := Scalar.addi v242 c1_i32_146
  let c256_i32_147 : BitVec 32 := 256#32
  let v244 : BitVec 32 := Scalar.muli v243 c256_i32_147
  let v245 : BitVec 32 := v244
  let v246 : Index := Scalar.indexCast v245
  let c0_148 : Index := 0#32
  ![v246.toNat, 0]
def k0_off40 (i : grid0.Coords) (k0_t59 : Fin (k0_t59_loop i).trips) : Fin 4 → Nat :=
  let c0_261 : Index := 0#32
  let c2_i32_145 : BitVec 32 := 2#32
  let c0_i32_80 : BitVec 32 := 0#32
  let c1_i32_82 : BitVec 32 := 1#32
  let arg28 : BitVec 32 := Scf.iv c0_i32_80 c1_i32_82 k0_t59
  let v242 : BitVec 32 := Scalar.muli c2_i32_145 arg28
  let v426 : Index := Scalar.indexCast v242
  let c0_262 : Index := 0#32
  let c0_263 : Index := 0#32
  ![0, v426.toNat, 0, 0]
def k0_mult38 (i : grid0.Coords) (k0_t59 : Fin (k0_t59_loop i).trips) : BitVec 32 :=
  let c2_i32_145 : BitVec 32 := 2#32
  let c0_i32_80 : BitVec 32 := 0#32
  let c1_i32_82 : BitVec 32 := 1#32
  let arg28 : BitVec 32 := Scf.iv c0_i32_80 c1_i32_82 k0_t59
  let v242 : BitVec 32 := Scalar.muli c2_i32_145 arg28
  let c2_i32_315 : BitVec 32 := 2#32
  let v503 : BitVec 32 := Scalar.addi v242 c2_i32_315
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_71 : BitVec 32 := 1#32
  let v136 : BitVec 32 := Scalar.subi v17 c1_i32_71
  let v504 : BitVec 32 := Scalar.minsi v503 v136
  let c256_i32_316 : BitVec 32 := 256#32
  let v505 : BitVec 32 := Scalar.muli v504 c256_i32_316
  v505
def k0_off41 (i : grid0.Coords) (k0_t59 : Fin (k0_t59_loop i).trips) : Fin 2 → Nat :=
  let c2_i32_145 : BitVec 32 := 2#32
  let c0_i32_80 : BitVec 32 := 0#32
  let c1_i32_82 : BitVec 32 := 1#32
  let arg28 : BitVec 32 := Scf.iv c0_i32_80 c1_i32_82 k0_t59
  let v242 : BitVec 32 := Scalar.muli c2_i32_145 arg28
  let c2_i32_315 : BitVec 32 := 2#32
  let v503 : BitVec 32 := Scalar.addi v242 c2_i32_315
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_71 : BitVec 32 := 1#32
  let v136 : BitVec 32 := Scalar.subi v17 c1_i32_71
  let v504 : BitVec 32 := Scalar.minsi v503 v136
  let c256_i32_316 : BitVec 32 := 256#32
  let v505 : BitVec 32 := Scalar.muli v504 c256_i32_316
  let v506 : BitVec 32 := v505
  let v507 : Index := Scalar.indexCast v506
  let c0_317 : Index := 0#32
  ![v507.toNat, 0]
def k0_off42 (i : grid0.Coords) (k0_t59 : Fin (k0_t59_loop i).trips) : Fin 4 → Nat :=
  let c0_431 : Index := 0#32
  let c2_i32_145 : BitVec 32 := 2#32
  let c0_i32_80 : BitVec 32 := 0#32
  let c1_i32_82 : BitVec 32 := 1#32
  let arg28 : BitVec 32 := Scf.iv c0_i32_80 c1_i32_82 k0_t59
  let v242 : BitVec 32 := Scalar.muli c2_i32_145 arg28
  let c1_i32_430 : BitVec 32 := 1#32
  let v687 : BitVec 32 := Scalar.addi v242 c1_i32_430
  let v688 : Index := Scalar.indexCast v687
  let c0_432 : Index := 0#32
  let c0_433 : Index := 0#32
  ![0, v688.toNat, 0, 0]
@[reducible] def k0_t60_loop (i : grid0.Coords) : Scf.Loop 32 :=
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let v155 : BitVec 32 := Scalar.addi c0_i32_80 v154
  let c1_i32_83 : BitVec 32 := 1#32
  ⟨v158, v155, c1_i32_83⟩
def k0_mult39 (i : grid0.Coords) (k0_t60 : Fin (k0_t60_loop i).trips) : BitVec 32 :=
  let c2_i32_145 : BitVec 32 := 2#32
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_83 : BitVec 32 := 1#32
  let arg28 : BitVec 32 := Scf.iv v158 c1_i32_83 k0_t60
  let v242 : BitVec 32 := Scalar.muli c2_i32_145 arg28
  let c1_i32_146 : BitVec 32 := 1#32
  let v243 : BitVec 32 := Scalar.addi v242 c1_i32_146
  let c256_i32_147 : BitVec 32 := 256#32
  let v244 : BitVec 32 := Scalar.muli v243 c256_i32_147
  v244
def k0_off43 (i : grid0.Coords) (k0_t60 : Fin (k0_t60_loop i).trips) : Fin 2 → Nat :=
  let c2_i32_145 : BitVec 32 := 2#32
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_83 : BitVec 32 := 1#32
  let arg28 : BitVec 32 := Scf.iv v158 c1_i32_83 k0_t60
  let v242 : BitVec 32 := Scalar.muli c2_i32_145 arg28
  let c1_i32_146 : BitVec 32 := 1#32
  let v243 : BitVec 32 := Scalar.addi v242 c1_i32_146
  let c256_i32_147 : BitVec 32 := 256#32
  let v244 : BitVec 32 := Scalar.muli v243 c256_i32_147
  let v245 : BitVec 32 := v244
  let v246 : Index := Scalar.indexCast v245
  let c0_148 : Index := 0#32
  ![v246.toNat, 0]
def k0_off44 (i : grid0.Coords) (k0_t60 : Fin (k0_t60_loop i).trips) : Fin 4 → Nat :=
  let c0_261 : Index := 0#32
  let c2_i32_145 : BitVec 32 := 2#32
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_83 : BitVec 32 := 1#32
  let arg28 : BitVec 32 := Scf.iv v158 c1_i32_83 k0_t60
  let v242 : BitVec 32 := Scalar.muli c2_i32_145 arg28
  let v426 : Index := Scalar.indexCast v242
  let c0_262 : Index := 0#32
  let c0_263 : Index := 0#32
  ![0, v426.toNat, 0, 0]
def k0_mult40 (i : grid0.Coords) (k0_t60 : Fin (k0_t60_loop i).trips) : BitVec 32 :=
  let c2_i32_145 : BitVec 32 := 2#32
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_83 : BitVec 32 := 1#32
  let arg28 : BitVec 32 := Scf.iv v158 c1_i32_83 k0_t60
  let v242 : BitVec 32 := Scalar.muli c2_i32_145 arg28
  let c2_i32_315 : BitVec 32 := 2#32
  let v503 : BitVec 32 := Scalar.addi v242 c2_i32_315
  let c1_i32_71 : BitVec 32 := 1#32
  let v136 : BitVec 32 := Scalar.subi v17 c1_i32_71
  let v504 : BitVec 32 := Scalar.minsi v503 v136
  let c256_i32_316 : BitVec 32 := 256#32
  let v505 : BitVec 32 := Scalar.muli v504 c256_i32_316
  v505
def k0_off45 (i : grid0.Coords) (k0_t60 : Fin (k0_t60_loop i).trips) : Fin 2 → Nat :=
  let c2_i32_145 : BitVec 32 := 2#32
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_83 : BitVec 32 := 1#32
  let arg28 : BitVec 32 := Scf.iv v158 c1_i32_83 k0_t60
  let v242 : BitVec 32 := Scalar.muli c2_i32_145 arg28
  let c2_i32_315 : BitVec 32 := 2#32
  let v503 : BitVec 32 := Scalar.addi v242 c2_i32_315
  let c1_i32_71 : BitVec 32 := 1#32
  let v136 : BitVec 32 := Scalar.subi v17 c1_i32_71
  let v504 : BitVec 32 := Scalar.minsi v503 v136
  let c256_i32_316 : BitVec 32 := 256#32
  let v505 : BitVec 32 := Scalar.muli v504 c256_i32_316
  let v506 : BitVec 32 := v505
  let v507 : Index := Scalar.indexCast v506
  let c0_317 : Index := 0#32
  ![v507.toNat, 0]
def k0_off46 (i : grid0.Coords) (k0_t60 : Fin (k0_t60_loop i).trips) : Fin 4 → Nat :=
  let c0_431 : Index := 0#32
  let c2_i32_145 : BitVec 32 := 2#32
  let c0_i32_80 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c0_i32_73 : BitVec 32 := 0#32
  let v138 : BitVec 1 := Scalar.cmpi .sgt v17 c0_i32_73
  let v139 : BitVec 32 := Scalar.extui v138
  let c0_i32_74 : BitVec 32 := 0#32
  let v140 : BitVec 1 := Scalar.cmpi .slt v17 c0_i32_74
  let v141 : BitVec 32 := Scalar.extui v140
  let v142 : BitVec 32 := Scalar.subi v139 v141
  let c2_i32_72 : BitVec 32 := 2#32
  let c0_i32_75 : BitVec 32 := 0#32
  let v143 : BitVec 1 := Scalar.cmpi .sgt c2_i32_72 c0_i32_75
  let v144 : BitVec 32 := Scalar.extui v143
  let c0_i32_76 : BitVec 32 := 0#32
  let v145 : BitVec 1 := Scalar.cmpi .slt c2_i32_72 c0_i32_76
  let v146 : BitVec 32 := Scalar.extui v145
  let v147 : BitVec 32 := Scalar.subi v144 v146
  let v148 : BitVec 1 := Scalar.cmpi .ne v142 v147
  let v149 : BitVec 32 := Scalar.remsi v17 c2_i32_72
  let c0_i32_77 : BitVec 32 := 0#32
  let v150 : BitVec 1 := Scalar.cmpi .ne v149 c0_i32_77
  let v151 : BitVec 1 := Scalar.andi v148 v150
  let v137 : BitVec 32 := Scalar.divsi v17 c2_i32_72
  let c1_i32_78 : BitVec 32 := 1#32
  let v152 : BitVec 32 := Scalar.subi v137 c1_i32_78
  let v153 : BitVec 32 := Scalar.select v151 v152 v137
  let v154 : BitVec 32 := Scalar.subi v153 c0_i32_80
  let c1_i32_81 : BitVec 32 := 1#32
  let v156 : BitVec 32 := Scalar.divsi v154 c1_i32_81
  let v157 : BitVec 32 := Scalar.muli v156 c1_i32_81
  let v158 : BitVec 32 := Scalar.addi c0_i32_80 v157
  let c1_i32_83 : BitVec 32 := 1#32
  let arg28 : BitVec 32 := Scf.iv v158 c1_i32_83 k0_t60
  let v242 : BitVec 32 := Scalar.muli c2_i32_145 arg28
  let c1_i32_430 : BitVec 32 := 1#32
  let v687 : BitVec 32 := Scalar.addi v242 c1_i32_430
  let v688 : Index := Scalar.indexCast v687
  let c0_432 : Index := 0#32
  let c0_433 : Index := 0#32
  ![0, v688.toNat, 0, 0]
def k0_cond19 (i : grid0.Coords) : BitVec 1 :=
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c2_i32_84 : BitVec 32 := 2#32
  let c0_i32_85 : BitVec 32 := 0#32
  let v159 : BitVec 1 := Scalar.cmpi .eq c2_i32_84 c0_i32_85
  let c1_i32_86 : BitVec 32 := 1#32
  let v160 : BitVec 32 := Scalar.select v159 c1_i32_86 c2_i32_84
  let v161 : BitVec 32 := Scalar.remsi v17 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c1_i32_90 : BitVec 32 := 1#32
  let v169 : BitVec 1 := Scalar.cmpi .eq v168 c1_i32_90
  let v170 : BitVec 32 := Scalar.extui v169
  let c0_i32_91 : BitVec 32 := 0#32
  let v171 : BitVec 1 := Scalar.cmpi .ne v170 c0_i32_91
  v171

def k0_off47 (i : grid0.Coords) : Fin 4 → Nat :=
  let c0_249 : Index := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_71 : BitVec 32 := 1#32
  let v136 : BitVec 32 := Scalar.subi v17 c1_i32_71
  let v410 : Index := Scalar.indexCast v136
  let c0_250 : Index := 0#32
  let c0_251 : Index := 0#32
  ![0, v410.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.AttnLoops.lean ====
/- The attention kernel's loops that the frame proof states by hand: each owns what it touches. -/
module

public import proofs.«01_k».proof.Proof.Gen.Attn.Loops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option warn.classDefReducibility false in
/-- The radix loop over the sort keys: the keys stay. -/
@[sl_loop] def loopInv_k0_t54 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v18 : BitVec 32) (v20 : IVec S128x128 32) (v93 : BitVec 32) (v95 : Vec F S1x128 .i32) (v249 : IVec S128x128 32) (X10 : BufTy.Contents (Elt F) arg10.view.ty) (init : IVec S1x128 32) :
    LoopInvTy_k0_t54 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v18 v20 v93 v95 v249 init where
  inv := fun k acc => (arg10.view.loc (c : Thread nD τ) ↦[arg10.view.set]{fullShare} X10)
  step := fun k acc => by
    unfold k0_t54_body
    iintro H10
    sl_exec
    sl_step
    sl_close

set_option warn.classDefReducibility false in
/-- The tile loop: the keys, the values and the queries stay, the ten scratch buffers are owned at some contents. -/
@[sl_loop] def loopInv_k0_t59 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v17 : BitVec 32) (v125 : Vec F S256x256 .bf16) (v126 : Vec F S256x1024 .bf16) (v136 : BitVec 32) (X6 : BufTy.Contents (Elt F) arg6.view.ty) (X13 : BufTy.Contents (Elt F) arg13.view.ty) (X14 : BufTy.Contents (Elt F) arg14.view.ty) :
    LoopInvTy_k0_t59 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v125 v126 v136 where
  inv := fun k acc => iprop((arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)))
  step := fun k acc => by
    unfold k0_t59_body
    simp only [k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton]
    iintro ⟨H6, H13, H14, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩⟩
    sl_exec
    sl_step
    sl_close

set_option warn.classDefReducibility false in
/-- The tile loop: the keys, the values and the queries stay, the ten scratch buffers are owned at some contents. -/
@[sl_loop] def loopInv_k0_t60 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v17 : BitVec 32) (v125 : Vec F S256x256 .bf16) (v126 : Vec F S256x1024 .bf16) (v136 : BitVec 32) (v158 : BitVec 32) (X6 : BufTy.Contents (Elt F) arg6.view.ty) (X13 : BufTy.Contents (Elt F) arg13.view.ty) (X14 : BufTy.Contents (Elt F) arg14.view.ty) :
    LoopInvTy_k0_t60 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v125 v126 v136 v158 where
  inv := fun k acc => iprop((arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)))
  step := fun k acc => by
    unfold k0_t60_body
    simp only [k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton]
    iintro ⟨H6, H13, H14, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩⟩
    sl_exec
    sl_step
    sl_close

/-- The kernel's buffers: the inputs at given contents, the output block and the scratch at some contents. -/
abbrev bufs (c : Dev nD) (arg2 : Memref sig .tc .vmem S1x1x128x1024 .bf16) (arg3 : Memref sig .tc .vmem S1x1x64x1024 .bf16) (arg4 : Memref sig .tc .vmem S1x1x8x128 .f32) (arg5 : Memref sig .tc .vmem S1x4096x128 .bf16) (arg6 : Memref sig .tc .vmem S1x16x144x256 .bf16) (arg7 : Memref sig .tc .vmem S1x4096x64 .bf16) (arg8 : Memref sig .tc .vmem S8x64x128 .bf16) (arg9 : Memref sig .tc .vmem S1x128x512 .bf16) (arg10 : Memref sig .tc .vmem S4096x128 .i32) (arg11 : Memref sig .tc .vmem S2048x128 .i32) (arg12 : Memref sig .tc .vmem S2048x128 .i32) (arg13 : Memref sig .tc .vmem S4096x256 .bf16) (arg14 : Memref sig .tc .vmem S256x1024 .bf16) (arg15 : Memref sig .tc .vmem S128x1024 .f32) (arg16 : Memref sig .tc .vmem S128x1024 .f32) (arg17 : Memref sig .tc .vmem S256x1024 .f32) (arg18 : Memref sig .tc .vmem S256x1024 .f32) (arg19 : Memref sig .tc .vmem S256x1024 .bf16) (arg20 : Memref sig .tc .vmem S256x1024 .bf16) (arg21 : Memref sig .tc .vmem S8x128 .f32) (arg22 : Memref sig .tc .vmem S8x128 .f32) (arg23 : Memref sig .tc .vmem S8x1024 .f32) (arg24 : Memref sig .tc .vmem S8x1024 .f32) (arg25 : Memref sig .tc .vmem S144x1024 .f32) (arg26 : Memref sig .tc .vmem S8x128 .f32) (arg27 : Memref sig .tc .vmem S1x128 .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)))

variable {α : Type}

/-- A conditional whose one arm goes straight to what follows: what follows is run once, from what is owned. -/
theorem wp_dite_both {P : sProp 𝕄} {c : Dev nD} {E : Set ℕ} {p : Prop} {inst : Decidable p} {A : p → Prog (TpuEff nD τ sig (Elt F) Λ₀ .tc) α}
    {J : Prog (TpuEff nD τ sig (Elt F) Λ₀ .tc) α} {Q : α → sProp 𝕄}
    (hJ : P ⊢ wp frame (wpE (defs₀ (F := F)) Variants.none (c : Thread nD τ) none) E J Q)
    (hA : ∀ h, (P ⊢ wp frame (wpE (defs₀ (F := F)) Variants.none (c : Thread nD τ) none) E J Q) →
      P ⊢ wp frame (wpE (defs₀ (F := F)) Variants.none (c : Thread nD τ) none) E (A h) Q) :
    P ⊢ wp frame (wpE (defs₀ (F := F)) Variants.none (c : Thread nD τ) none) E (dite p A (fun _ => J)) Q := by
  split
  · exact hA _ hJ
  · exact hJ

/-- A conditional, arm by arm. -/
theorem wp_ite_both {P : sProp 𝕄} {c : Dev nD} {E : Set ℕ} {p : Prop} {inst : Decidable p} {A B : Prog (TpuEff nD τ sig (Elt F) Λ₀ .tc) α} {Q : α → sProp 𝕄}
    (hA : P ⊢ wp frame (wpE (defs₀ (F := F)) Variants.none (c : Thread nD τ) none) E A Q)
    (hB : P ⊢ wp frame (wpE (defs₀ (F := F)) Variants.none (c : Thread nD τ) none) E B Q) :
    P ⊢ wp frame (wpE (defs₀ (F := F)) Variants.none (c : Thread nD τ) none) E (if p then A else B) Q := by
  split
  · exact hA
  · exact hB

end Cert.Proof.Attn

end
-- ==== Proof.AttnPart334.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 334 of the body keeps the inputs and owns the rest. -/
theorem part334 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part334 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part334_eq_skeleton]
  unfold k0_part334_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  sl_exec
  sl_step
  sl_close

end Cert.Proof.Attn

end
-- ==== Proof.AttnPart335.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 335 of the body keeps the inputs and owns the rest. -/
theorem part335 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v17 : BitVec 32) (v18 : BitVec 32) (v20 : IVec S128x128 32) (v23 : IVec S128x128 32) (v34 : Vec F S1x128x64 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part335 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v18 v20 v23 v34)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part335_eq_skeleton]
  unfold k0_part335_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  sl_exec
  iapply (wp_dite_both (P := bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) ?_ (fun h hJ => ?_))
  rotate_right
  · sl_close
  repeat refine wp_dite_both ?_ (fun h hJ => ?_)
  all_goals
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
    sl_exec
    first
    | iapply hJ
      sl_close
    | sl_step
      sl_close

end Cert.Proof.Attn

end
-- ==== Proof.AttnPart336.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 336 of the body keeps the inputs and owns the rest. -/
theorem part336 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v17 : BitVec 32) (v63 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part336 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v63)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part336_eq_skeleton]
  unfold k0_part336_skel
  dsimp only
  repeat refine wp_dite_both ?_ (fun h hJ => ?_)
  all_goals
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
    sl_exec
    first
    | iapply hJ
      sl_close
    | sl_step
      sl_close

end Cert.Proof.Attn

end
-- ==== Proof.AttnPart337.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 337 of the body keeps the inputs and owns the rest. -/
theorem part337 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v18 : BitVec 32) (v20 : IVec S128x128 32) (v93 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part337 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v18 v20 v93)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part337_eq_skeleton]
  unfold k0_part337_skel
  dsimp only
  refine wp_dite_both ?_ (fun h hJ => ?_)
  all_goals
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
    sl_exec
    iapply (wp_ite_both (P := bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) ?_ ?_)
    rotate_right
    · sl_close
    all_goals
      iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
      sl_exec
      sl_step
      sl_close

end Cert.Proof.Attn

end
-- ==== Proof.AttnPart338.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 338 of the body keeps the inputs and owns the rest. -/
theorem part338 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v17 : BitVec 32) (v125 : Vec F S256x256 .bf16) (v126 : Vec F S256x1024 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part338 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v125 v126)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part338_eq_skeleton]
  unfold k0_part338_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  sl_exec
  sl_step
  sl_close

end Cert.Proof.Attn

end
-- ==== Proof.AttnPart339.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 339 of the body keeps the inputs and owns the rest. -/
theorem part339 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v17 : BitVec 32) (v136 : BitVec 32) (v160 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part339 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v136 v160)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part339_eq_skeleton]
  unfold k0_part339_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  sl_exec
  sl_step
  sl_close

end Cert.Proof.Attn

end
-- ==== Proof.AttnPart340.lean ====
/- A part of the attention kernel's body keeps its buffers. -/
module

public import proofs.«01_k».proof.Proof.AttnLoops
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 20000000 in
/-- Part 340 of the body keeps the inputs and owns the rest. -/
theorem part340 (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (v192 : FVec F S128x128 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (k0_part340 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v192)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [k0_part340_eq_skeleton]
  unfold k0_part340_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  sl_exec
  sl_step
  sl_close

end Cert.Proof.Attn

end
-- ==== Proof.AttnBody.lean ====
/- The attention kernel's body on one block of queries: it keeps its inputs and owns the rest. -/
module

public import proofs.«01_k».proof.Proof.AttnPart334
public import proofs.«01_k».proof.Proof.AttnPart335
public import proofs.«01_k».proof.Proof.AttnPart336
public import proofs.«01_k».proof.Proof.AttnPart337
public import proofs.«01_k».proof.Proof.AttnPart338
public import proofs.«01_k».proof.Proof.AttnPart339
public import proofs.«01_k».proof.Proof.AttnPart340
public import proofs.«01_k».proof.Proof.Gen.Attn.Launch
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The body keeps the inputs and owns the output block and the scratch. -/
theorem body_keeps (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8
    ⊢ wp frame (wpE (defs₀ (F := F)) Variants.none (c : Thread nD τ) none) Set.univ (cc0__attn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
        (fun _ => bufs (F := F) c arg2 arg3 arg4 arg5 arg6 arg7 arg8 arg9 arg10 arg11 arg12 arg13 arg14 arg15 arg16 arg17 arg18 arg19 arg20 arg21 arg22 arg23 arg24 arg25 arg26 arg27 X2 X3 X4 X5 X6 X7 X8) := by
  rw [cc0__attn_kernel_eq_skeleton]
  unfold cc0__attn_kernel_skel
  rw [wp_bind]
  refine (part334 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  X2 X3 X4 X5 X6 X7 X8).trans (wp_mono _ _ _ fun r => ?_)
  obtain ⟨v17, v18, v20, v23, v34⟩ := r
  try dsimp only
  rw [wp_bind]
  refine (part335 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v18 v20 v23 v34 X2 X3 X4 X5 X6 X7 X8).trans (wp_mono _ _ _ fun v63 => ?_)
  try dsimp only
  rw [wp_bind]
  refine (part336 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v63 X2 X3 X4 X5 X6 X7 X8).trans (wp_mono _ _ _ fun v93 => ?_)
  try dsimp only
  rw [wp_bind]
  refine (part337 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v18 v20 v93 X2 X3 X4 X5 X6 X7 X8).trans (wp_mono _ _ _ fun r => ?_)
  obtain ⟨v125, v126⟩ := r
  try dsimp only
  rw [wp_bind]
  refine (part338 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v125 v126 X2 X3 X4 X5 X6 X7 X8).trans (wp_mono _ _ _ fun r => ?_)
  obtain ⟨v136, v160⟩ := r
  try dsimp only
  rw [wp_bind]
  refine (part339 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v17 v136 v160 X2 X3 X4 X5 X6 X7 X8).trans (wp_mono _ _ _ fun r => ?_)
  obtain ⟨v179, v187, v192⟩ := r
  try dsimp only
  rw [wp_bind]
  refine (part340 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v192 X2 X3 X4 X5 X6 X7 X8).trans (wp_mono _ _ _ fun r => ?_)
  obtain ⟨v195, v203, v211, v219, v220, v222⟩ := r
  try dsimp only
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  sl_exec
  sl_step
  sl_close

end Cert.Proof.Attn

end
-- ==== Proof.AttnFrame.lean ====
/- The attention kernel's frame: launched over its grid, it runs to its end and leaves its arguments as they were. -/
module

public import proofs.«01_k».proof.Proof.AttnBody
public import proofs.«01_k».proof.Proof.Gen.Attn.Launch
public import proofs.«01_k».proof.Proof.Gen.Attn.Points
public import proofs.«01_k».proof.Proof.Gen.Attn.Frame
public import Idealize.ShloMosaic.Lib.Pipeline.FrameBody
public import Idealize.ShloMosaic.Lib.Claim

public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What one point hands the body: each input block at what it holds, the output block and the scratch at anything. -/
abbrev held (c : Dev nD) (arg2 : Memref sig .tc .vmem S1x1x128x1024 .bf16) (arg3 : Memref sig .tc .vmem S1x1x64x1024 .bf16) (arg4 : Memref sig .tc .vmem S1x1x8x128 .f32) (arg5 : Memref sig .tc .vmem S1x4096x128 .bf16) (arg6 : Memref sig .tc .vmem S1x16x144x256 .bf16) (arg7 : Memref sig .tc .vmem S1x4096x64 .bf16) (arg8 : Memref sig .tc .vmem S8x64x128 .bf16) (arg9 : Memref sig .tc .vmem S1x128x512 .bf16) (arg10 : Memref sig .tc .vmem S4096x128 .i32) (arg11 : Memref sig .tc .vmem S2048x128 .i32) (arg12 : Memref sig .tc .vmem S2048x128 .i32) (arg13 : Memref sig .tc .vmem S4096x256 .bf16) (arg14 : Memref sig .tc .vmem S256x1024 .bf16) (arg15 : Memref sig .tc .vmem S128x1024 .f32) (arg16 : Memref sig .tc .vmem S128x1024 .f32) (arg17 : Memref sig .tc .vmem S256x1024 .f32) (arg18 : Memref sig .tc .vmem S256x1024 .f32) (arg19 : Memref sig .tc .vmem S256x1024 .bf16) (arg20 : Memref sig .tc .vmem S256x1024 .bf16) (arg21 : Memref sig .tc .vmem S8x128 .f32) (arg22 : Memref sig .tc .vmem S8x128 .f32) (arg23 : Memref sig .tc .vmem S8x1024 .f32) (arg24 : Memref sig .tc .vmem S8x1024 .f32) (arg25 : Memref sig .tc .vmem S144x1024 .f32) (arg26 : Memref sig .tc .vmem S8x128 .f32) (arg27 : Memref sig .tc .vmem S1x128 .i32) (x2 : Vec F S1x1x128x1024 .bf16) (x3 : Vec F S1x1x64x1024 .bf16) (x4 : Vec F S1x1x8x128 .f32) (x5 : Vec F S1x4096x128 .bf16) (x6 : Vec F S1x16x144x256 .bf16) (x7 : Vec F S1x4096x64 .bf16) (x8 : Vec F S8x64x128 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d))

set_option maxHeartbeats 4000000 in
/-- The body on one block of queries, from the blocks it is handed: it hands the same back. -/
theorem run (c : Dev nD) (i : grid0.Coords) (arg2 : Memref sig .tc .vmem S1x1x128x1024 .bf16) (harg2 : arg2.IsWhole) (arg3 : Memref sig .tc .vmem S1x1x64x1024 .bf16) (harg3 : arg3.IsWhole) (arg4 : Memref sig .tc .vmem S1x1x8x128 .f32) (harg4 : arg4.IsWhole) (arg5 : Memref sig .tc .vmem S1x4096x128 .bf16) (harg5 : arg5.IsWhole) (arg6 : Memref sig .tc .vmem S1x16x144x256 .bf16) (harg6 : arg6.IsWhole) (arg7 : Memref sig .tc .vmem S1x4096x64 .bf16) (harg7 : arg7.IsWhole) (arg8 : Memref sig .tc .vmem S8x64x128 .bf16) (harg8 : arg8.IsWhole) (arg9 : Memref sig .tc .vmem S1x128x512 .bf16) (harg9 : arg9.IsWhole) (arg10 : Memref sig .tc .vmem S4096x128 .i32) (harg10 : arg10.IsWhole) (arg11 : Memref sig .tc .vmem S2048x128 .i32) (harg11 : arg11.IsWhole) (arg12 : Memref sig .tc .vmem S2048x128 .i32) (harg12 : arg12.IsWhole) (arg13 : Memref sig .tc .vmem S4096x256 .bf16) (harg13 : arg13.IsWhole) (arg14 : Memref sig .tc .vmem S256x1024 .bf16) (harg14 : arg14.IsWhole) (arg15 : Memref sig .tc .vmem S128x1024 .f32) (harg15 : arg15.IsWhole) (arg16 : Memref sig .tc .vmem S128x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S8x128 .f32) (harg21 : arg21.IsWhole) (arg22 : Memref sig .tc .vmem S8x128 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S144x1024 .f32) (harg25 : arg25.IsWhole) (arg26 : Memref sig .tc .vmem S8x128 .f32) (harg26 : arg26.IsWhole) (arg27 : Memref sig .tc .vmem S1x128 .i32) (harg27 : arg27.IsWhole) (x2 : Vec F S1x1x128x1024 .bf16) (x3 : Vec F S1x1x64x1024 .bf16) (x4 : Vec F S1x1x8x128 .f32) (x5 : Vec F S1x4096x128 .bf16) (x6 : Vec F S1x16x144x256 .bf16) (x7 : Vec F S1x4096x64 .bf16) (x8 : Vec F S8x64x128 .bf16) :
    held (F := F) c arg2 arg3 arg4 arg5 arg6 arg7 arg8 arg9 arg10 arg11 arg12 arg13 arg14 arg15 arg16 arg17 arg18 arg19 arg20 arg21 arg22 arg23 arg24 arg25 arg26 arg27 x2 x3 x4 x5 x6 x7 x8
    ⊢ wp frame (wpE (defs₀ (F := F)) Variants.none (c : Thread nD τ) none) Set.univ (cc0__attn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
        (fun _ => held (F := F) c arg2 arg3 arg4 arg5 arg6 arg7 arg8 arg9 arg10 arg11 arg12 arg13 arg14 arg15 arg16 arg17 arg18 arg19 arg20 arg21 arg22 arg23 arg24 arg25 arg26 arg27 x2 x3 x4 x5 x6 x7 x8) := by
  have hb := body_keeps (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (harg2.unread (Val := Elt F) x2) (harg3.unread (Val := Elt F) x3) (harg4.unread (Val := Elt F) x4) (harg5.unread (Val := Elt F) x5) (harg6.unread (Val := Elt F) x6) (harg7.unread (Val := Elt F) x7) (harg8.unread (Val := Elt F) x8)
  refine (show _ ⊢ _ from ?_).trans (hb.trans (wp_mono _ _ _ fun _ => ?_))
  · unfold held bufs owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, ⟨%d27, %f27, %hf27, H27⟩⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexists f9; iexact H9
    isplitl [H10]
    · iexists f10; iexact H10
    isplitl [H11]
    · iexists f11; iexact H11
    isplitl [H12]
    · iexists f12; iexact H12
    isplitl [H13]
    · iexists f13; iexact H13
    isplitl [H14]
    · iexists f14; iexact H14
    isplitl [H15]
    · iexists f15; iexact H15
    isplitl [H16]
    · iexists f16; iexact H16
    isplitl [H17]
    · iexists f17; iexact H17
    isplitl [H18]
    · iexists f18; iexact H18
    isplitl [H19]
    · iexists f19; iexact H19
    isplitl [H20]
    · iexists f20; iexact H20
    isplitl [H21]
    · iexists f21; iexact H21
    isplitl [H22]
    · iexists f22; iexact H22
    isplitl [H23]
    · iexists f23; iexact H23
    isplitl [H24]
    · iexists f24; iexact H24
    isplitl [H25]
    · iexists f25; iexact H25
    isplitl [H26]
    · iexists f26; iexact H26
    iexists f27; iexact H27
  · unfold held bufs owns
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H8]
    · iexists _; isplitr
      · ipureintro; exact harg8.read_unread _
      · iexact H8
    isplitl [H9]
    · iexists _; iexists f9; isplitr
      · ipureintro; rfl
      · iexact H9
    isplitl [H10]
    · iexists _; iexists f10; isplitr
      · ipureintro; rfl
      · iexact H10
    isplitl [H11]
    · iexists _; iexists f11; isplitr
      · ipureintro; rfl
      · iexact H11
    isplitl [H12]
    · iexists _; iexists f12; isplitr
      · ipureintro; rfl
      · iexact H12
    isplitl [H13]
    · iexists _; iexists f13; isplitr
      · ipureintro; rfl
      · iexact H13
    isplitl [H14]
    · iexists _; iexists f14; isplitr
      · ipureintro; rfl
      · iexact H14
    isplitl [H15]
    · iexists _; iexists f15; isplitr
      · ipureintro; rfl
      · iexact H15
    isplitl [H16]
    · iexists _; iexists f16; isplitr
      · ipureintro; rfl
      · iexact H16
    isplitl [H17]
    · iexists _; iexists f17; isplitr
      · ipureintro; rfl
      · iexact H17
    isplitl [H18]
    · iexists _; iexists f18; isplitr
      · ipureintro; rfl
      · iexact H18
    isplitl [H19]
    · iexists _; iexists f19; isplitr
      · ipureintro; rfl
      · iexact H19
    isplitl [H20]
    · iexists _; iexists f20; isplitr
      · ipureintro; rfl
      · iexact H20
    isplitl [H21]
    · iexists _; iexists f21; isplitr
      · ipureintro; rfl
      · iexact H21
    isplitl [H22]
    · iexists _; iexists f22; isplitr
      · ipureintro; rfl
      · iexact H22
    isplitl [H23]
    · iexists _; iexists f23; isplitr
      · ipureintro; rfl
      · iexact H23
    isplitl [H24]
    · iexists _; iexists f24; isplitr
      · ipureintro; rfl
      · iexact H24
    isplitl [H25]
    · iexists _; iexists f25; isplitr
      · ipureintro; rfl
      · iexact H25
    isplitl [H26]
    · iexists _; iexists f26; isplitr
      · ipureintro; rfl
      · iexact H26
    iexists _; iexists f27; isplitr
    · ipureintro; rfl
    · iexact H27

/-- What the region's invariant owns: every scratch at anything and the generator register. -/
theorem PhiA0_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d)) ∗ (∃ r, prngReg c r)) := by
  unfold Pipeline.ΦA; rw [scopedRest0_eq]; simp only [owns_whole]; try rfl

/-- The one output, whose contents the frame does not name. -/
abbrev fgt : Fin cfg0.W → Bool := fun w => w.val == 7

/-- The launch's data: the arrays as the region finds them, each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed ⟨7, h⟩ t
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem Phi_eq (c : Dev nD) (t : Fin (cfg0.N + 1)) : (dats m 0 c).Φ t = Pipeline.ΦA spec0 c := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- What the launch hands the body at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, owns (c : Thread nD τ) (st0_7 t) fullShare X))

/-- What it takes back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, owns (c : Thread nD τ) (st0_7 t) fullShare X))

set_option maxHeartbeats 2000000 in
/-- The body at any point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, after0_0, after0_1, after0_2, after0_3, after0_4, after0_5, after0_6, Phi_eq, Phi_eq, PhiA0_eq]
  have hr := run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (iblk m c 0 t) (iblk m c 1 t) (iblk m c 2 t) (iblk m c 3 t) (iblk m c 4 t) (iblk m c 5 t) (iblk m c 6 t)
  refine (show _ ⊢ iprop(((dats m 0 c).owesAt () t.castSucc ∗ (∃ r, prngReg c r)) ∗ held (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (iblk m c 0 t) (iblk m c 1 t) (iblk m c 2 t) (iblk m c 3 t) (iblk m c 4 t) (iblk m c 5 t) (iblk m c 6 t)) from ?_).trans
    ((sep_mono .rfl hr).trans ((wp_frame_l _ _ _).trans (wp_mono _ _ _ fun _ => ?_)))
  · unfold held
    iintro ⟨⟨⟨S0, S1, S2, S3, S4, S5, S6, S7, S8, S9, S10, S11, S12, S13, S14, S15, S16, S17⟩, Hg⟩, Ho, ⟨%d0, H0⟩, ⟨%d1, H1⟩, ⟨%d2, H2⟩, ⟨%d3, H3⟩, ⟨%d4, H4⟩, ⟨%d5, H5⟩, ⟨%d6, H6⟩, H7⟩
    isplitl [Ho Hg]
    · isplitl [Ho]
      · iexact Ho
      · iexact Hg
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    isplitl [S11]
    · iexact S11
    isplitl [S12]
    · iexact S12
    isplitl [S13]
    · iexact S13
    isplitl [S14]
    · iexact S14
    isplitl [S15]
    · iexact S15
    isplitl [S16]
    · iexact S16
    iexact S17
  · unfold held
    iintro ⟨⟨Ho, Hg⟩, H0, H1, H2, H3, H4, H5, H6, H7, S0, S1, S2, S3, S4, S5, S6, S7, S8, S9, S10, S11, S12, S13, S14, S15, S16, S17⟩
    isplitl [Hg S0 S1 S2 S3 S4 S5 S6 S7 S8 S9 S10 S11 S12 S13 S14 S15 S16 S17]
    · isplitr [Hg]
      · isplitl [S0]
        · iexact S0
        isplitl [S1]
        · iexact S1
        isplitl [S2]
        · iexact S2
        isplitl [S3]
        · iexact S3
        isplitl [S4]
        · iexact S4
        isplitl [S5]
        · iexact S5
        isplitl [S6]
        · iexact S6
        isplitl [S7]
        · iexact S7
        isplitl [S8]
        · iexact S8
        isplitl [S9]
        · iexact S9
        isplitl [S10]
        · iexact S10
        isplitl [S11]
        · iexact S11
        isplitl [S12]
        · iexact S12
        isplitl [S13]
        · iexact S13
        isplitl [S14]
        · iexact S14
        isplitl [S15]
        · iexact S15
        isplitl [S16]
        · iexact S16
        iexact S17
      · iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    iexact H7

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch runs to its end, from any memory: the inputs' arrays end as they were, and the semaphores at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := Phi_eq m)

/-- The frame of the attention call: its arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      ((h.1 c).2 main_arg6 (Pipeline.mem_restRefs_of main_arg6 (by decide) (by decide))).trans (V_main_arg6 m c)⟩, h.2⟩) (run_main m ρ)

end Cert.Proof.Attn

end
-- ==== Proof.PostTrip.lean ====
/- The feed-forward loop of the post call: one trip, over any float operations. -/
module

public import proofs.«01_k».proof.Proof.Gen.KernelIdeal.Loops
public import proofs.«01_k».proof.Proof.Gen.KernelIdeal.Launch
public import Idealize.ShloMosaic.Lib.Exec
public import Idealize.ShloMosaic.Lib.VecWindow
public import Idealize.ShloMosaic.Lib.ValueIdx
public import Idealize.ShloMosaic.Lib.Tactic
public import Idealize.ShloMosaic.Lib.Pipeline.Kit

@[expose] public section

set_option maxRecDepth 8192

noncomputable section

namespace Cert.Proof.Post

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the loop computes, as functions of the arrays read -/

/-- Slab `n` of an array of eleven slabs, as a one-slab array. -/
def slab {m l : ℕ} {α : Type} (V : (⟨3, ![11, m, l]⟩ : Shape).Idx → α) (n : ℕ) : (⟨3, ![1, m, l]⟩ : Shape).Idx → α :=
  fun y => V (ix3 (Fin.ofNat 11 n) (y 1) (y 2))

/-- Rows `o …` of the down-projection's weights, 512 of them. -/
def wdRows (V : Vec F S2816x1024 .bf16) (o : ℕ) : Vec F S512x1024 .bf16 :=
  fun y => V (ix2 (Fin.ofNat 2816 (o + (y 0).val)) (y 1))

/-- Eight rows `c` above 512 rows `u`: the padded block that the convolution reads. -/
def glue (c : Vec F S8x512 .f32) (u : Vec F S512x512 .f32) : Vec F S520x512 .f32 := fun y =>
  if h : (y 0).val < 8 then c (ix2 ⟨(y 0).val, h⟩ (y 1))
  else u (ix2 ⟨(y 0).val - 8, by have : (y 0).val < 520 := (y 0).isLt; omega⟩ (y 1))

/-- 256 columns `a` to the left of 256 columns `b`. -/
def beside (a b : Vec F S512x256 .bf16) : Vec F S512x512 .bf16 := fun y =>
  if h : (y 1).val < 256 then a (ix2 (y 0) ⟨(y 1).val, h⟩)
  else b (ix2 (y 0) ⟨(y 1).val - 256, by have : (y 1).val < 512 := (y 1).isLt; omega⟩)

/-- The up-projection of chunk `n`: the rows `H` times slab `n` of the weights. -/
def up (H : Vec F S512x1024 .bf16) (W : Vec F S11x1024x512 .bf16) (n : ℕ) : Vec F S512x512 .f32 := k0_pay20 H (slab W n)

/-- The padded block of chunk `n`: the tail kept of the previous tile's up-projection above this tile's. -/
def padded (H : Vec F S512x1024 .bf16) (W : Vec F S11x1024x512 .bf16) (C : Vec F S11x8x512 .f32) (n : ℕ) : Vec F S520x512 .f32 :=
  glue (k0_pay4 (slab C n)) (up H W n)

/-- The activation of chunk `n`: convolution of the padded block, then the gated product of its halves. -/
def actv (H : Vec F S512x1024 .bf16) (W : Vec F S11x1024x512 .bf16) (K : Vec F S11x8x512 .f32) (C : Vec F S11x8x512 .f32) (n : ℕ) : Vec F S512x256 .bf16 :=
  k0_pay6 (slab K n) (up H W n) (VecWindow.window (padded H W C n) ![6, 0] S512x512.size inb_S520x512_S512x512_6_0)
    (VecWindow.window (padded H W C n) ![7, 0] S512x512.size inb_S520x512_S512x512_7_0)

/-- The tails after the first `n` chunks: theirs new, the others' as they were. -/
def tails (H : Vec F S512x1024 .bf16) (W : Vec F S11x1024x512 .bf16) (C : Vec F S11x8x512 .f32) (n : ℕ) : Vec F S11x8x512 .f32 := fun y =>
  if (y 0).val < n then k0_pay5 (up H W (y 0).val) (ix3 0 (y 1) (y 2)) else C y

/-- The two activations that trip `k` finds: zeros before the first trip, then those of the trip before. -/
def acts (H : Vec F S512x1024 .bf16) (W : Vec F S11x1024x512 .bf16) (K : Vec F S11x8x512 .f32) (C : Vec F S11x8x512 .f32) : ℕ → Vec F S512x512 .bf16
  | 0 => k0_pay21
  | k + 1 => beside (actv H W K C (2 * k)) (actv H W K C (2 * k + 1))

/-- The accumulator that trip `k` finds. -/
def accs (H : Vec F S512x1024 .bf16) (W : Vec F S11x1024x512 .bf16) (K : Vec F S11x8x512 .f32) (D : Vec F S2816x1024 .bf16) (C : Vec F S11x8x512 .f32) : ℕ → Vec F S512x1024 .f32
  | 0 => k0_pay23 k0_pay22
  | k + 1 => k0_pay2 (accs H W K D C k) (acts H W K C k) (wdRows D (512 * (k - 1)))

/-! ## Windows of these arrays -/

theorem window_slab {m l : ℕ} {α : Type} (V : (⟨3, ![11, m, l]⟩ : Shape).Idx → α) (n : ℕ) (hn : n < 11) (off : Fin 3 → ℕ) (h : off = ![n, 0, 0])
    (inb : ∀ a, off a + (⟨3, ![1, m, l]⟩ : Shape).size a ≤ (⟨3, ![11, m, l]⟩ : Shape).size a) :
    VecWindow.window (s := ⟨3, ![11, m, l]⟩) V off (⟨3, ![1, m, l]⟩ : Shape).size inb = slab V n := by
  subst h
  funext y
  refine congrArg V (funext fun a => Fin.ext ?_)
  have h0 : (y 0).val < 1 := (y 0).isLt
  fin_cases a
  · show n + 1 * (y 0).val = n % 11
    omega
  · show 0 + 1 * (y 1).val = (y 1).val
    omega
  · show 0 + 1 * (y 2).val = (y 2).val
    omega

theorem window_wdRows (V : Vec F S2816x1024 .bf16) (o : ℕ) (ho : o + 512 ≤ 2816) (off : Fin 2 → ℕ) (h : off = ![o, 0])
    (inb : ∀ a, off a + S512x1024.size a ≤ S2816x1024.size a) :
    VecWindow.window (s := S2816x1024) V off S512x1024.size inb = wdRows V o := by
  subst h
  funext y
  refine congrArg V (funext fun a => Fin.ext ?_)
  have h0 : (y 0).val < 512 := (y 0).isLt
  fin_cases a
  · show o + 1 * (y 0).val = (o + (y 0).val) % 2816
    omega
  · show 0 + 1 * (y 1).val = (y 1).val
    omega

/-- A buffer whose rows below the first eight are `u`, with `c` put over the first eight, is `glue c u`. -/
theorem put_glue (V : Vec F S520x512 .f32) (c : Vec F S8x512 .f32) (u : Vec F S512x512 .f32)
    (h : VecWindow.window V ![8, 0] S512x512.size inb_S520x512_S512x512_8_0 = u) :
    VecWindow.put V ![0, 0] S8x512.size c = glue c u := by
  subst h
  funext y
  unfold VecWindow.put glue
  have h1 : (y 1).val < 512 := (y 1).isLt
  have h00 : (y 0).val < 520 := (y 0).isLt
  by_cases h0 : (y 0).val < 8
  · rw [dif_pos h0, dif_pos (by intro a; fin_cases a <;> simp [S8x512] <;> omega)]
    refine congrArg c (funext fun a => Fin.ext ?_)
    fin_cases a <;> rfl
  · rw [dif_neg h0, dif_neg (by intro hh; have := (hh 0).2; simp [S8x512] at this; omega)]
    refine congrArg V (funext fun a => Fin.ext ?_)
    fin_cases a
    · show (y 0).val = 8 + 1 * ((y 0).val - 8)
      omega
    · show (y 1).val = 0 + 1 * (y 1).val
      omega

/-- The rows of `glue c u` below the first eight are `u`. -/
theorem window_glue (c : Vec F S8x512 .f32) (u : Vec F S512x512 .f32) :
    VecWindow.window (glue c u) ![8, 0] S512x512.size inb_S520x512_S512x512_8_0 = u := by
  rw [← put_glue (VecWindow.put (glue c u) ![8, 0] S512x512.size u) c u (VecWindow.window_put_same ..),
    VecWindow.window_put_of_disjoint _ _ _ _ _ _ _ 0 (.inr (by simp [S8x512])), VecWindow.window_put_same]

/-- Both halves of the columns put make `beside`. -/
theorem put_beside (V : Vec F S512x512 .bf16) (a b : Vec F S512x256 .bf16) :
    VecWindow.put (VecWindow.put V ![0, 0] S512x256.size a) ![0, 256] S512x256.size b = beside a b := by
  funext y
  unfold VecWindow.put beside
  have h1 : (y 1).val < 512 := (y 1).isLt
  have h00 : (y 0).val < 512 := (y 0).isLt
  by_cases h0 : (y 1).val < 256
  · rw [dif_pos h0, dif_neg (by intro hh; have := (hh 1).1; simp at this; omega),
      dif_pos (by intro a; fin_cases a <;> simp [S512x256] <;> omega)]
    refine congrArg a (funext fun a => Fin.ext ?_)
    fin_cases a <;> rfl
  · rw [dif_neg h0, dif_pos (by intro a; fin_cases a <;> simp [S512x256] <;> omega)]
    refine congrArg b (funext fun a => Fin.ext ?_)
    fin_cases a <;> rfl

/-- Putting the new tails of chunks `n` and `n + 1`. -/
theorem put_tails (H : Vec F S512x1024 .bf16) (W : Vec F S11x1024x512 .bf16) (C : Vec F S11x8x512 .f32) (n : ℕ) (hn : n < 11) :
    VecWindow.put (tails H W C n) ![n, 0, 0] S1x8x512.size (k0_pay5 (up H W n)) = tails H W C (n + 1) := by
  funext y
  unfold VecWindow.put tails
  have h0 : (y 0).val < 11 := (y 0).isLt
  have h1 : (y 1).val < 8 := (y 1).isLt
  have h2 : (y 2).val < 512 := (y 2).isLt
  by_cases h : (y 0).val = n
  · rw [dif_pos (by intro a; fin_cases a <;> simp [S1x8x512] <;> omega), if_pos (by omega), show up H W (y 0).val = up H W n from by rw [h]]
    refine congrArg (k0_pay5 (up H W n)) (funext fun a => Fin.ext ?_)
    fin_cases a
    · show (y 0).val - n = 0
      omega
    · rfl
    · rfl
  · rw [dif_neg (by intro hh; have := hh 0; simp [S1x8x512] at this; omega)]
    by_cases h' : (y 0).val < n
    · rw [if_pos h', if_pos (by omega)]
    · rw [if_neg h', if_neg (by omega)]

/-- A chunk not yet reached still has the tail it had. -/
theorem slab_tails (H : Vec F S512x1024 .bf16) (W : Vec F S11x1024x512 .bf16) (C : Vec F S11x8x512 .f32) (n m : ℕ) (hn : n ≤ m) (hm : m < 11) :
    slab (tails H W C n) m = slab C m := by
  funext y
  show tails H W C n (ix3 (Fin.ofNat 11 m) (y 1) (y 2)) = _
  unfold tails
  rw [if_neg (by show ¬ m % 11 < n; omega)]
  rfl

/-- A load of the padded block, after the eight rows and the 512 rows were stored, reads a window of `glue`. -/
theorem readCov_glue (v : View sig .tc .vmem S520x512 .f32) (c : Vec F S8x512 .f32) (u : Vec F S512x512 .f32) (o : ℕ)
    (inb : ∀ a, (![o, 0] : Fin 2 → ℕ) a + S512x512.size a ≤ S520x512.size a) :
    v.readCov [⟨Rect.unit ![0, 0] S8x512.size inb_S520x512_S8x512_0_0, c⟩, ⟨Rect.unit ![8, 0] S512x512.size inb_S520x512_S512x512_8_0, u⟩]
        (Rect.unit (s := S520x512) ![o, 0] S512x512.size inb).toLoadRect
      = VecWindow.window (glue c u) ![o, 0] S512x512.size inb := by
  show v.readAt (Elt F) _ (v.writes (Elt F) v.junk _) = _
  rw [View.readAt_unit v _ inb rfl inb, View.read_writes_cons_put v _ _ _ _ rfl, View.read_writes_cons_put v _ _ _ _ rfl]
  refine congrArg (fun V : Vec F S520x512 .f32 => VecWindow.window V ![o, 0] S512x512.size inb) ?_
  exact put_glue _ c u (VecWindow.window_put_same ..)

theorem off1_eq : ∀ k : Fin k0_t1_loop.trips, k0_off1 k = ![512 * (k.val - 1), 0] := by decide +kernel

variable (i : grid0.Coords) (arg2 : Memref sig .tc .vmem S1x512x1024 .f32) (harg2 : arg2.IsWhole) (arg3 : Memref sig .tc .vmem S1x512x512 .bf16) (harg3 :
  arg3.IsWhole) (arg4 : Memref sig .tc .vmem S1x512x1024 .bf16) (harg4 : arg4.IsWhole) (arg5 : Memref sig .tc .vmem S1x512x1024 .bf16) (harg5 :
  arg5.IsWhole) (arg6 : Memref sig .tc .vmem S1x1x512x256 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S512x1024 .bf16) (harg9 : arg9.IsWhole) (arg10 : Memref
  sig .tc .vmem S1024x1024 .bf16) (harg10 : arg10.IsWhole) (arg11 : Memref sig .tc .vmem S1x1024 .f32) (harg11 : arg11.IsWhole) (arg12 : Memref sig .tc
  .vmem S1x1024 .f32) (harg12 : arg12.IsWhole) (arg13 : Memref sig .tc .vmem S11x1024x512 .bf16) (harg13 : arg13.IsWhole) (arg14 : Memref sig .tc .vmem
  S11x8x512 .f32) (harg14 : arg14.IsWhole) (arg15 : Memref sig .tc .vmem S2816x1024 .bf16) (harg15 : arg15.IsWhole) (arg16 : Memref sig .tc .vmem
  S1024x1024 .bf16) (harg16 : arg16.IsWhole) (arg17 : Memref sig .tc .vmem S1x1024 .f32) (harg17 : arg17.IsWhole) (arg18 : Memref sig .tc .vmem
  S256x1024 .bf16) (harg18 : arg18.IsWhole) (arg19 : Memref sig .tc .vmem S1x1024 .f32) (harg19 : arg19.IsWhole) (arg20 : Memref sig .tc .vmem S1x1024
  .f32) (harg20 : arg20.IsWhole) (arg21 : Memref sig .tc .vmem S1x512x1024 .f32) (harg21 : arg21.IsWhole) (arg22 : Memref sig .tc .vmem S520x512 .f32)
  (harg22 : arg22.IsWhole) (arg23 : Memref sig .tc .vmem S520x512 .f32) (harg23 : arg23.IsWhole) (arg24 : Memref sig .tc .vmem S11x8x512 .f32) (harg24 :
  arg24.IsWhole) (arg25 : Memref sig .tc .vmem S512x1024 .bf16) (harg25 : arg25.IsWhole) (arg26 : Memref sig .tc .vmem S512x512 .bf16) (harg26 :
  arg26.IsWhole) (arg27 : Memref sig .tc .vmem S512x1024 .f32) (harg27 : arg27.IsWhole) (v104 : FVec F S512x1024 .f32)

/-! ## One trip -/

/-- What trip `n` finds in the scratch buffers it uses. -/
structure Found (H : Vec F S512x1024 .bf16) (W : Vec F S11x1024x512 .bf16) (K : Vec F S11x8x512 .f32) (D : Vec F S2816x1024 .bf16) (C : Vec F S11x8x512 .f32)
    (n : ℕ) (v22 : Vec F S520x512 .f32) (v24 : Vec F S11x8x512 .f32) (v26 : Vec F S512x512 .bf16) (v27 : Vec F S512x1024 .f32) : Prop where
  /-- the padded block's rows below the first eight: the up-projection of chunk `2 n` -/
  pre : VecWindow.window v22 ![8, 0] S512x512.size inb_S520x512_S512x512_8_0 = up H W (2 * n)
  /-- the tails: those of the chunks before `2 n` are new -/
  tail : v24 = tails H W C (2 * n)
  /-- the activations of the trip before -/
  act : v26 = acts H W K C n
  /-- the accumulator -/
  acc : v27 = accs H W K D C n

set_option maxHeartbeats 1000000 in
/-- One trip takes what it finds to what the next one finds. -/
theorem found_succ (c : Dev nD) (X13 : BufTy.Contents (Elt F) arg13.view.ty) (X14 : BufTy.Contents (Elt F) arg14.view.ty) (X15 : BufTy.Contents (Elt F) arg15.view.ty) (X25 : BufTy.Contents (Elt F) arg25.view.ty) (f22 : BufTy.Contents (Elt F) arg22.view.ty) (f23 : BufTy.Contents (Elt F) arg23.view.ty) (f24 : BufTy.Contents (Elt F) arg24.view.ty) (f26 : BufTy.Contents (Elt F) arg26.view.ty) (f27 : BufTy.Contents (Elt F) arg27.view.ty) (k : Fin k0_t1_loop.trips) (C : Vec F S11x8x512 .f32)
    (h : Found (arg25.view.read (Elt F) X25) (arg13.view.read (Elt F) X13) (arg14.view.read (Elt F) X14) (arg15.view.read (Elt F) X15) C k.val
      (arg22.view.read (Elt F) f22) (arg24.view.read (Elt F) f24) (arg26.view.read (Elt F) f26) (arg27.view.read (Elt F) f27)) :
    Found (arg25.view.read (Elt F) X25) (arg13.view.read (Elt F) X13) (arg14.view.read (Elt F) X14) (arg15.view.read (Elt F) X15) C (k.val + 1)
      (arg22.view.read (Elt F) (arg22.view.writes (Elt F) f22 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 k).1 f22 f23 f24 f26 f27)))
      (arg24.view.read (Elt F) (arg24.view.writes (Elt F) f24 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 k).2.2.1 f22 f23 f24 f26 f27)))
      (arg26.view.read (Elt F) (arg26.view.writes (Elt F) f26 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 k).2.2.2.1 f22 f23 f24 f26 f27)))
      (arg27.view.read (Elt F) (arg27.view.writes (Elt F) f27 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 k).2.2.2.2.1 f22 f23 f24 f26 f27))) := by
  have hk : k.val < 5 := Nat.lt_of_lt_of_le k.isLt k0_t1_abs.2.1
  obtain ⟨hpre, htail, hact, hacc⟩ := h
  have e13a := (View.readAt_unit arg13.view X13 (k0_off2_inb k) rfl (k0_off2_inb k)).trans (window_slab (arg13.view.read (Elt F) X13) (2 * k.val + 1) (by omega) _ (k0_off2_eq k) (k0_off2_inb k))
  have e13b := (View.readAt_unit arg13.view X13 (k0_off4_inb k) rfl (k0_off4_inb k)).trans (window_slab (arg13.view.read (Elt F) X13) (2 * k.val + 2) (by omega) _ (k0_off4_eq k) (k0_off4_inb k))
  have e14a := (View.readAt_unit arg14.view X14 (k0_off3_inb k) rfl (k0_off3_inb k)).trans (window_slab (arg14.view.read (Elt F) X14) (2 * k.val) (by omega) _ (k0_off3_eq k) (k0_off3_inb k))
  have e14b := (View.readAt_unit arg14.view X14 (k0_off5_inb k) rfl (k0_off5_inb k)).trans (window_slab (arg14.view.read (Elt F) X14) (2 * k.val + 1) (by omega) _ (k0_off5_eq k) (k0_off5_inb k))
  have e24a := (View.readAt_unit arg24.view f24 (k0_off3_inb k) rfl (k0_off3_inb k)).trans (window_slab (arg24.view.read (Elt F) f24) (2 * k.val) (by omega) _ (k0_off3_eq k) (k0_off3_inb k))
  have e24b := (View.readAt_unit arg24.view f24 (k0_off5_inb k) rfl (k0_off5_inb k)).trans (window_slab (arg24.view.read (Elt F) f24) (2 * k.val + 1) (by omega) _ (k0_off5_eq k) (k0_off5_inb k))
  have e15 := (View.readAt_unit arg15.view X15 (k0_off1_inb k) rfl (k0_off1_inb k)).trans (window_wdRows (arg15.view.read (Elt F) X15) (512 * (k.val - 1)) (by omega) _ (off1_eq k) (k0_off1_inb k))
  have e25 := View.readAt_full arg25.view X25 (off := ![0, 0]) inb_S512x1024_S512x1024_0_0
  have e26 := View.readAt_full arg26.view f26 (off := ![0, 0]) inb_S512x512_S512x512_0_0
  have e27 := View.readAt_full arg27.view f27 (off := ![0, 0]) inb_S512x1024_S512x1024_0_0
  have e22 := (View.readAt_unit arg22.view f22 (off := ![8, 0]) inb_S520x512_S512x512_8_0 rfl inb_S520x512_S512x512_8_0).trans hpre
  rw [htail, slab_tails _ _ _ _ _ (by omega) (by omega)] at e24a
  rw [htail, slab_tails _ _ _ _ _ (by omega) (by omega)] at e24b
  unfold trip_k0_t1
  dsimp only
  unfold trip_k0_t1.sl.r trip_k0_t1.sl.HW_arg22_1 trip_k0_t1.sl.v217 trip_k0_t1.sl.r_1
  have e268 : trip_k0_t1.sl.v268 arg13 arg23 arg24 arg25 X13 X25 k f24 = up (arg25.view.read (Elt F) X25) (arg13.view.read (Elt F) X13) (2 * k.val + 1) := by
    unfold trip_k0_t1.sl.v268 trip_k0_t1.sl.HW_arg23_2
    rw [readCov_glue, window_glue, e13a, e25]
    rfl
  have e270 : trip_k0_t1.sl.v270 arg13 arg23 arg24 arg25 X13 X25 k f24
      = VecWindow.window (padded (arg25.view.read (Elt F) X25) (arg13.view.read (Elt F) X13) C (2 * k.val + 1)) ![6, 0] S512x512.size inb_S520x512_S512x512_6_0 := by
    unfold trip_k0_t1.sl.v270 trip_k0_t1.sl.HW_arg23_2 trip_k0_t1.sl.v260
    rw [readCov_glue, e13a, e25, e24b]
    rfl
  have e274 : trip_k0_t1.sl.v274 arg13 arg23 arg24 arg25 X13 X25 k f24
      = VecWindow.window (padded (arg25.view.read (Elt F) X25) (arg13.view.read (Elt F) X13) C (2 * k.val + 1)) ![7, 0] S512x512.size inb_S520x512_S512x512_7_0 := by
    unfold trip_k0_t1.sl.v274 trip_k0_t1.sl.HW_arg23_2 trip_k0_t1.sl.v260
    rw [readCov_glue, e13a, e25, e24b]
    rfl
  have ew : ∀ (o : ℕ) (inb : ∀ a, (![o, 0] : Fin 2 → ℕ) a + S512x512.size a ≤ S520x512.size a),
      View.readAt (Elt F) arg22.view (Rect.unit (s := S520x512) ![o, 0] S512x512.size inb).toLoadRect
        (arg22.view.writes (Elt F) f22 [⟨Rect.unit ![0, 0] S8x512.size inb_S520x512_S8x512_0_0,
          k0_pay4 (View.readAt (Elt F) arg24.view (Rect.unit (s := S11x8x512) (k0_off3 k) S1x8x512.size (k0_off3_inb k)).toLoadRect f24)⟩])
      = VecWindow.window (padded (arg25.view.read (Elt F) X25) (arg13.view.read (Elt F) X13) C (2 * k.val)) ![o, 0] S512x512.size inb := fun o inb => by
    rw [View.readAt_unit arg22.view _ inb rfl inb, View.read_writes_cons_put arg22.view _ _ _ _ rfl, e24a, View.writes_nil, put_glue _ _ _ hpre]
    rfl
  constructor
  · rw [View.read_writes_cons_put arg22.view _ _ _ _ rfl]
    refine (VecWindow.window_put_same ..).trans ?_
    rw [e25, e13b]
    rfl
  · rw [View.read_writes_cons_put arg24.view _ _ _ _ (k0_off5_eq k), View.read_writes_cons_put arg24.view _ _ _ _ (k0_off3_eq k), View.writes_nil,
      htail, e22, e268]
    exact (congrArg (fun V : Vec F S11x8x512 .f32 => VecWindow.put V ![2 * k.val + 1, 0, 0] S1x8x512.size (k0_pay5 (up (arg25.view.read (Elt F) X25) (arg13.view.read (Elt F) X13) (2 * k.val + 1))))
      (put_tails _ _ C (2 * k.val) (by omega))).trans (put_tails _ _ C (2 * k.val + 1) (by omega))
  · rw [View.read_writes_cons_put arg26.view _ _ _ _ rfl, View.read_writes_cons_put arg26.view _ _ _ _ rfl, e268, e270, e274, e14b, e22]
    refine (put_beside _ _ _).trans ?_
    refine congrArg₂ beside ?_ rfl
    exact congr (congr (congrArg (fun w => k0_pay6 w (up (arg25.view.read (Elt F) X25) (arg13.view.read (Elt F) X13) (2 * k.val))) e14a) (ew 6 _)) (ew 7 _)
  · refine (View.read_writes_full arg27.view f27 inb_S512x1024_S512x1024_0_0 _ _).trans ?_
    exact congr (congr (congrArg k0_pay2 (e27.trans hacc)) (e26.trans hact)) e15

omit [FloatOps F] in
/-- What a buffer reads after two lists of writes, the later one in front. -/
theorem read_append {s : Shape} {e : EltTy} (v : View sig .tc .vmem s e) (G : BufTy.Contents (Elt F) v.ty) {P L L' : List (View.Piece (Elt F) s e)} (h : P = L ++ L') :
    v.read (Elt F) (v.writes (Elt F) G P) = v.read (Elt F) (v.writes (Elt F) (v.writes (Elt F) G L') L) := by
  rw [h, View.writes_append]

/-- Every trip finds what `Found` says, if the first one does. -/
theorem found_trips (c : Dev nD) (X13 : BufTy.Contents (Elt F) arg13.view.ty) (X14 : BufTy.Contents (Elt F) arg14.view.ty) (X15 : BufTy.Contents (Elt F) arg15.view.ty) (X25 : BufTy.Contents (Elt F) arg25.view.ty) (G22 : BufTy.Contents (Elt F) arg22.view.ty) (G23 : BufTy.Contents (Elt F) arg23.view.ty) (G24 : BufTy.Contents (Elt F) arg24.view.ty) (G26 : BufTy.Contents (Elt F) arg26.view.ty) (G27 : BufTy.Contents (Elt F) arg27.view.ty) (C : Vec F S11x8x512 .f32)
    (h : Found (arg25.view.read (Elt F) X25) (arg13.view.read (Elt F) X13) (arg14.view.read (Elt F) X14) (arg15.view.read (Elt F) X15) C 0
      (arg22.view.read (Elt F) G22) (arg24.view.read (Elt F) G24) (arg26.view.read (Elt F) G26) (arg27.view.read (Elt F) G27)) :
    ∀ n, n ≤ k0_t1_loop.trips →
    Found (arg25.view.read (Elt F) X25) (arg13.view.read (Elt F) X13) (arg14.view.read (Elt F) X14) (arg15.view.read (Elt F) X15) C n
      (arg22.view.read (Elt F) (arg22.view.writes (Elt F) G22 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 G22 G23 G24 G26 G27 n).1))
      (arg24.view.read (Elt F) (arg24.view.writes (Elt F) G24 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 G22 G23 G24 G26 G27 n).2.2.1))
      (arg26.view.read (Elt F) (arg26.view.writes (Elt F) G26 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 G22 G23 G24 G26 G27 n).2.2.2.1))
      (arg27.view.read (Elt F) (arg27.view.writes (Elt F) G27 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 G22 G23 G24 G26 G27 n).2.2.2.2)) := by
  intro n
  induction n with
  | zero => exact fun _ => h
  | succ n ih =>
    intro hn
    have hs := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 G22 G23 G24 G26 G27 ⟨n, hn⟩
    have st := found_succ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 c X13 X14 X15 X25 _ (arg23.view.writes (Elt F) G23 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 X13 X14 X15 X25 G22 G23 G24 G26 G27 n).2.1) _ _ _ ⟨n, hn⟩ C (ih (Nat.le_of_succ_le hn))
    have r22 := read_append arg22.view G22 (congrArg (fun p => p.1) hs)
    have r24 := read_append arg24.view G24 (congrArg (fun p => p.2.2.1) hs)
    have r26 := read_append arg26.view G26 (congrArg (fun p => p.2.2.2.1) hs)
    have r27 := read_append arg27.view G27 (congrArg (fun p => p.2.2.2.2) hs)
    clear hs ih h
    exact ⟨(congrArg (fun V : Vec F S520x512 .f32 => VecWindow.window V ![8, 0] S512x512.size inb_S520x512_S512x512_8_0) r22).trans st.pre,
      r24.trans st.tail, r26.trans st.act, r27.trans st.acc⟩

/-- The loop runs five trips. -/
theorem trips_eq : k0_t1_loop.trips = 5 := by decide +kernel

end Cert.Proof.Post

end
-- ==== Proof.PostTile.lean ====
/- The post call: what one tile computes of the blocks it reads. -/
module

public import proofs.«01_k».proof.Proof.PostTrip
public import proofs.«01_k».proof.Proof.Gen.KernelIdeal.Launch
public import Idealize.ShloMosaic.Lib.Exec
public import Idealize.ShloMosaic.Lib.VecWindow
public import Idealize.ShloMosaic.Lib.ValueIdx
public import Idealize.ShloMosaic.Lib.Tactic
public import Idealize.ShloMosaic.Lib.Pipeline.Kit

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What a tile computes -/

/-- The blocks that one tile reads. -/
structure Ins (F : FTy → Type) where
  x : Vec F S1x512x1024 .f32
  att : Vec F S1x512x512 .bf16
  sig : Vec F S1x512x1024 .bf16
  mconv : Vec F S1x512x1024 .bf16
  p : Vec F S1x1x512x256 .f32
  lng : Vec F S1x1024 .f32
  lnb : Vec F S1x1024 .f32
  wbra : Vec F S512x1024 .bf16
  wo : Vec F S1024x1024 .bf16
  l1g : Vec F S1x1024 .f32
  l1b : Vec F S1x1024 .f32
  wup : Vec F S11x1024x512 .bf16
  cw : Vec F S11x8x512 .f32
  wd : Vec F S2816x1024 .bf16
  wpg : Vec F S1024x1024 .bf16
  bpg : Vec F S1x1024 .f32
  wple : Vec F S256x1024 .bf16
  l2g : Vec F S1x1024 .f32
  l2b : Vec F S1x1024 .f32

/-- The state after the mixing branches and the first normalisation. -/
def Ins.h1 (I : Ins F) : FVec F S512x1024 .f32 := k0_pay16 (k0_pay13 I.x I.lng I.lnb) (k0_pay14 I.sig) (k0_pay15 I.att) I.wbra I.mconv I.wo I.l1g I.l1b

/-- The same, rounded: what the feed-forward block and the embedding's gate read. -/
def Ins.h1b (I : Ins F) : FVec F S512x1024 .bf16 := k0_pay18 (k0_pay17 (k0_pay13 I.x I.lng I.lnb) (k0_pay14 I.sig) (k0_pay15 I.att) I.wbra I.mconv I.wo I.l1g I.l1b)

/-- The gated embedding of the layer. -/
def Ins.ple (I : Ins F) : FVec F S512x1024 .f32 := k0_pay19 I.h1b I.wpg I.bpg I.p I.wple

/-- Chunk 10 of the up-projection, below the eight rows carried from the tile before. -/
def Ins.last (I : Ins F) (C : Vec F S11x8x512 .f32) : Vec F S520x512 .f32 := padded I.h1b I.wup C 10

/-- The tile's output block, given the tails `C` of the tile before. -/
def Ins.out (I : Ins F) (C : Vec F S11x8x512 .f32) : FVec F S1x512x1024 .f32 :=
  k0_pay1
    (k0_pay31 I.h1 I.ple (k0_pay25 (accs I.h1b I.wup I.cw I.wd C 5) (acts I.h1b I.wup I.cw C 5) (wdRows I.wd 2048))
      (k0_pay28 (slab I.cw 10) (up I.h1b I.wup 10) (VecWindow.window (I.last C) ![6, 0] S512x512.size inb_S520x512_S512x512_6_0)
        (VecWindow.window (I.last C) ![7, 0] S512x512.size inb_S520x512_S512x512_7_0))
      (k0_pay29 (slab I.cw 10)) (VecWindow.window I.wd ![2560, 0] S256x1024.size inb_S2816x1024_S256x1024_2560_0) I.l2g)
    (k0_pay32 I.l2b)

/-- The tails that the tile leaves. -/
def Ins.carry (I : Ins F) (C : Vec F S11x8x512 .f32) : Vec F S11x8x512 .f32 := tails I.h1b I.wup C 11

/-- The body's branch: the first tile of a sequence. -/
abbrev cond0_0 (i : grid0.Coords) : Prop := (Scalar.cmpi .ne (Scalar.extui (Scalar.cmpi .eq (BitVec.ofNat 32 (i 1).val) 0#32)) 0#32) = 1#1

/-- Cells that one store of the list covers read the same whatever lies beneath the list. -/
theorem readCov_base {s : Shape} {e : EltTy} (v : View sig .tc .vmem s e) (f : BufTy.Contents (Elt F) v.ty) (L : List (View.Piece (Elt F) s e)) (r : Rect s)
    (w : r.shape.Idx → Elt F e) (h : (⟨r, w⟩ : View.Piece (Elt F) s e) ∈ L) : v.readCov L r.toLoadRect = v.readAt (Elt F) r.toLoadRect (v.writes (Elt F) f L) :=
  (View.readAt_writes_of_cover v f L r.toLoadRect fun j => ⟨_, h, r.idx_mem j⟩).symm

/-- A memref's cells are a memref that holds something. -/
theorem some_owns (c : Dev nD) {sh : Shape} {e : EltTy} (m : Memref sig .tc .vmem sh e) (f : BufTy.Contents (Elt F) m.view.ty) :
    (m.view.loc c ↦[m.view.set]{fullShare} f : sProp 𝕄) ⊢ iprop(∃ d, ∃ f, ⌜m.view.read (Elt F) f = d⌝ ∗ (m.view.loc c ↦[m.view.set]{fullShare} f)) := by
  iintro H
  iexists m.view.read (Elt F) f
  iexists f
  isplitr
  · ipureintro; rfl
  · iexact H

end Cert.Proof.Post

end
-- ==== Proof.PostOwn.lean ====
/- The post call: what one tile's run hands back of its output's buffer. -/
module

public import proofs.«01_k».proof.Proof.PostTile

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A memref that one store through its whole size has filled holds the store's payload. -/
theorem full_owns (c : Dev nD) {sh : Shape} {e : EltTy} (m : Memref sig .tc .vmem sh e) {f : BufTy.Contents (Elt F) m.view.ty} {off : Fin sh.rank → ℕ}
    {inb : ∀ a, off a + sh.size a ≤ sh.size a} {w : (Rect.unit off sh.size inb).shape.Idx → Elt F e} {L : List (View.Piece (Elt F) sh e)} {d : sh.Idx → Elt F e} (h : w = d) :
    (m.view.loc c ↦[m.view.set]{fullShare} m.view.writes (Elt F) f (⟨Rect.unit off sh.size inb, w⟩ :: L) : sProp 𝕄)
      ⊢ iprop(∃ f, ⌜m.view.read (Elt F) f = d⌝ ∗ (m.view.loc c ↦[m.view.set]{fullShare} f)) := by
  iintro H
  iexists m.view.writes (Elt F) f (⟨Rect.unit off sh.size inb, w⟩ :: L)
  isplitr
  · ipureintro; exact (View.read_writes_full ..).trans h
  · iexact H

end Cert.Proof.Post

end
-- ==== Proof.PostFirst.lean ====
/- The post call: the body run on the first tile of a sequence. -/
module

public import proofs.«01_k».proof.Proof.PostOwn
public import proofs.«01_k».proof.Proof.Gen.KernelIdeal.Launch
public import Idealize.ShloMosaic.Lib.Exec
public import Idealize.ShloMosaic.Lib.VecWindow
public import Idealize.ShloMosaic.Lib.ValueIdx
public import Idealize.ShloMosaic.Lib.Tactic
public import Idealize.ShloMosaic.Lib.Pipeline.Kit

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on one tile, the first of its sequence. -/
theorem run_first (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S11x1024x512 .bf16) (harg13 : arg13.IsWhole) (arg14 : Memref sig .tc .vmem S11x8x512 .f32) (harg14 : arg14.IsWhole) (arg15 : Memref sig .tc .vmem S2816x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x512x1024 .f32) (harg21 : arg21.IsWhole) (arg22 : Memref sig .tc .vmem S520x512 .f32) (harg22 : arg22.IsWhole) (arg23 : Memref sig .tc .vmem S520x512 .f32) (harg23 : arg23.IsWhole) (arg24 : Memref sig .tc .vmem S11x8x512 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x1024 .f32) (harg27 : arg27.IsWhole) (I : Ins F)
    (hc : cond0_0 i) (E : Set ℕ) (K : PUnit → sProp 𝕄) :
    iprop(owns (c : Thread nD τ) arg2 fullShare I.x ∗ owns (c : Thread nD τ) arg3 fullShare I.att ∗ owns (c : Thread nD τ) arg4 fullShare I.sig ∗ owns (c : Thread nD τ) arg5 fullShare I.mconv ∗ owns (c : Thread nD τ) arg6 fullShare I.p ∗ owns (c : Thread nD τ) arg7 fullShare I.lng ∗ owns (c : Thread nD τ) arg8 fullShare I.lnb ∗ owns (c : Thread nD τ) arg9 fullShare I.wbra ∗ owns (c : Thread nD τ) arg10 fullShare I.wo ∗ owns (c : Thread nD τ) arg11 fullShare I.l1g ∗ owns (c : Thread nD τ) arg12 fullShare I.l1b ∗ owns (c : Thread nD τ) arg13 fullShare I.wup ∗ owns (c : Thread nD τ) arg14 fullShare I.cw ∗ owns (c : Thread nD τ) arg15 fullShare I.wd ∗ owns (c : Thread nD τ) arg16 fullShare I.wpg ∗ owns (c : Thread nD τ) arg17 fullShare I.bpg ∗ owns (c : Thread nD τ) arg18 fullShare I.wple ∗ owns (c : Thread nD τ) arg19 fullShare I.l2g ∗ owns (c : Thread nD τ) arg20 fullShare I.l2b ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
      ∗ (owns (c : Thread nD τ) arg2 fullShare I.x ∗ owns (c : Thread nD τ) arg3 fullShare I.att ∗ owns (c : Thread nD τ) arg4 fullShare I.sig ∗ owns (c : Thread nD τ) arg5 fullShare I.mconv ∗ owns (c : Thread nD τ) arg6 fullShare I.p ∗ owns (c : Thread nD τ) arg7 fullShare I.lng ∗ owns (c : Thread nD τ) arg8 fullShare I.lnb ∗ owns (c : Thread nD τ) arg9 fullShare I.wbra ∗ owns (c : Thread nD τ) arg10 fullShare I.wo ∗ owns (c : Thread nD τ) arg11 fullShare I.l1g ∗ owns (c : Thread nD τ) arg12 fullShare I.l1b ∗ owns (c : Thread nD τ) arg13 fullShare I.wup ∗ owns (c : Thread nD τ) arg14 fullShare I.cw ∗ owns (c : Thread nD τ) arg15 fullShare I.wd ∗ owns (c : Thread nD τ) arg16 fullShare I.wpg ∗ owns (c : Thread nD τ) arg17 fullShare I.bpg ∗ owns (c : Thread nD τ) arg18 fullShare I.wple ∗ owns (c : Thread nD τ) arg19 fullShare I.l2g ∗ owns (c : Thread nD τ) arg20 fullShare I.l2b ∗ owns (c : Thread nD τ) arg21 fullShare (I.out k0_pay12) ∗ (∃ d, owns (c : Thread nD τ) arg22 fullShare d) ∗ (∃ d, owns (c : Thread nD τ) arg23 fullShare d) ∗ owns (c : Thread nD τ) arg24 fullShare (I.carry k0_pay12) ∗ (∃ d, owns (c : Thread nD τ) arg25 fullShare d) ∗ (∃ d, owns (c : Thread nD τ) arg26 fullShare d) ∗ (∃ d, owns (c : Thread nD τ) arg27 fullShare d) -∗ K PUnit.unit))
    ⊢ wp frame (wpE (defs₀ (F := F)) Variants.none (c : Thread nD τ) none) E (cc0__post_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__post_kernel_eq_skeleton]
  unfold cc0__post_kernel_skel
  simp only [k0_part4_eq_skeleton, k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, ⟨%d27, %f27, %hf27, H27⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  sl_exec (disch := first | sl_exact hc)
  sl_step
  have er : run_first.sl.r c arg2 harg2 arg7 harg7 arg8 harg8 I = k0_pay13 I.x I.lng I.lnb := by
    unfold run_first.sl.r
    rw [View.readAt_full, View.readAt_full, View.readAt_full, hf2, hf7, hf8]
  have er1 : run_first.sl.r_1 c arg4 harg4 I = k0_pay14 I.sig := by
    unfold run_first.sl.r_1
    rw [View.readAt_full, hf4]
  have er2 : run_first.sl.r_2 c arg3 harg3 I = k0_pay15 I.att := by
    unfold run_first.sl.r_2
    rw [View.readAt_full, hf3]
  have er3 : run_first.sl.r_3 c arg9 harg9 I = I.wbra := by
    unfold run_first.sl.r_3
    rw [View.readAt_full, hf9]
  have er4 : run_first.sl.r_4 c arg2 harg2 arg3 harg3 arg4 harg4 arg5 harg5 arg7 harg7 arg8 harg8 arg9 harg9 arg10 harg10 arg11 harg11 arg12 harg12 I = I.h1 := by
    unfold run_first.sl.r_4
    rw [er, er1, er2, er3, View.readAt_full, View.readAt_full, View.readAt_full, View.readAt_full, hf5, hf10, hf11, hf12]
    rfl
  have e25 : View.read (Elt F) arg25.view (arg25.view.writes (Elt F) arg25.view.junk (run_first.sl.H25_1 c arg2 harg2 arg3 harg3 arg4 harg4 arg5 harg5 arg7 harg7 arg8 harg8 arg9 harg9 arg10 harg10 arg11 harg11 arg12 harg12 I)) = I.h1b := by
    unfold run_first.sl.H25_1 run_first.sl.r_5
    rw [View.read_writes_full, er, er1, er2, er3, View.readAt_full, View.readAt_full, View.readAt_full, View.readAt_full, hf5, hf10, hf11, hf12]
    rfl
  have e77 : run_first.sl.v77 c arg2 harg2 arg3 harg3 arg4 harg4 arg5 harg5 arg7 harg7 arg8 harg8 arg9 harg9 arg10 harg10 arg11 harg11 arg12 harg12 arg25 I = I.h1b := by
    unfold run_first.sl.v77
    exact (View.readAt_full arg25.view _ _).trans e25
  have er6 : run_first.sl.r_6 c arg2 harg2 arg3 harg3 arg4 harg4 arg5 harg5 arg6 harg6 arg7 harg7 arg8 harg8 arg9 harg9 arg10 harg10 arg11 harg11 arg12 harg12 arg16 harg16 arg17 harg17 arg18 harg18 arg25 I = I.ple := by
    unfold run_first.sl.r_6
    rw [e77, View.readAt_full, View.readAt_full, View.readAt_full, View.readAt_full, hf16, hf17, hf6, hf18]
    rfl
  have er9 : run_first.sl.r_9 arg14 harg14 I = k0_pay29 (slab I.cw 10) := by
    unfold run_first.sl.r_9
    rw [View.readAt_unit arg14.view _ _ rfl inb_S11x8x512_S1x8x512_10_0_0, hf14]
    exact congrArg k0_pay29 (window_slab I.cw 10 (by omega) _ rfl _)
  have er11 : run_first.sl.r_11 c arg20 harg20 I = k0_pay32 I.l2b := by
    unfold run_first.sl.r_11
    rw [View.readAt_full, hf20]
  have e8 : k0_pay20 (run_first.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup)) = up I.h1b I.wup 0 := by
    rw [e77, View.readAt_unit arg13.view _ _ rfl inb_S11x1024x512_S1x1024x512_0_0_0, hf13]
    exact congrArg (k0_pay20 I.h1b) (window_slab I.wup 0 (by omega) _ rfl _)
  have h24 : View.read (Elt F) arg24.view (arg24.view.writes (Elt F) arg24.view.junk run_first.sl.H24_1) = k0_pay12 := by
    unfold run_first.sl.H24_1
    rw [View.read_writes_full]
  have h26 : View.read (Elt F) arg26.view (arg26.view.writes (Elt F) arg26.view.junk run_first.sl.H26_1) = k0_pay21 := by
    unfold run_first.sl.H26_1
    rw [View.read_writes_full]
  have h27 : View.read (Elt F) arg27.view (arg27.view.writes (Elt F) arg27.view.junk run_first.sl.H27_1) = k0_pay23 k0_pay22 := by
    unfold run_first.sl.H27_1
    rw [View.read_writes_full]
  have hF := found_trips i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay22 c (harg13.unread I.wup) (harg14.unread I.cw) (harg15.unread I.wd) (arg25.view.writes (Elt F) arg25.view.junk (run_first.sl.H25_1 c arg2 harg2 arg3 harg3 arg4 harg4 arg5 harg5 arg7 harg7 arg8 harg8 arg9 harg9 arg10 harg10 arg11 harg11 arg12 harg12 I)) (arg22.view.writes (Elt F) f22 [⟨Rect.unit ![8, 0] S512x512.size inb_S520x512_S512x512_8_0, k0_pay20 (run_first.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))⟩]) f23 (arg24.view.writes (Elt F) arg24.view.junk run_first.sl.H24_1) (arg26.view.writes (Elt F) arg26.view.junk run_first.sl.H26_1) (arg27.view.writes (Elt F) arg27.view.junk run_first.sl.H27_1) k0_pay12
    ⟨by
      rw [View.read_writes_cons_put arg22.view _ _ _ _ rfl, e25, hf13]
      exact (VecWindow.window_put_same ..).trans e8,
    h24.trans (funext fun y => (if_neg (Nat.not_lt_zero _)).symm), h26, h27⟩ (Scf.trips k0_t1_loop.lb k0_t1_loop.ub k0_t1_loop.st) (Nat.le_refl _)
  obtain ⟨hp, ht, ha, hacc⟩ := hF
  rw [e25, hf13] at hp ht
  rw [e25, hf13, hf14] at ha
  rw [e25, hf13, hf14, hf15] at hacc
  have h5 : Scf.trips k0_t1_loop.lb k0_t1_loop.ub k0_t1_loop.st = 5 := trips_eq
  have e109 : run_first.sl.v109 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23 = accs I.h1b I.wup I.cw I.wd k0_pay12 5 := by
    unfold run_first.sl.v109
    refine (View.readAt_full arg27.view _ _).trans ((read_append arg27.view _ rfl).trans (hacc.trans ?_))
    rw [h5]
  have e110 : run_first.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23 = acts I.h1b I.wup I.cw k0_pay12 5 := by
    unfold run_first.sl.v110
    refine (View.readAt_full arg26.view _ _).trans ((read_append arg26.view _ rfl).trans (ha.trans ?_))
    rw [h5]
  have e24 : View.read (Elt F) arg24.view (arg24.view.writes (Elt F) arg24.view.junk ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay22 (harg13.unread I.wup) (harg14.unread I.cw) (harg15.unread I.wd) (arg25.view.writes (Elt F) arg25.view.junk (run_first.sl.H25_1 c arg2 harg2 arg3 harg3 arg4 harg4 arg5 harg5 arg7 harg7 arg8 harg8 arg9 harg9 arg10 harg10 arg11 harg11 arg12 harg12 I)) (arg22.view.writes (Elt F) f22 [⟨Rect.unit ![8, 0] S512x512.size inb_S520x512_S512x512_8_0, k0_pay20 (run_first.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))⟩]) f23 (arg24.view.writes (Elt F) arg24.view.junk run_first.sl.H24_1) (arg26.view.writes (Elt F) arg26.view.junk run_first.sl.H26_1) (arg27.view.writes (Elt F) arg27.view.junk run_first.sl.H27_1) (Scf.trips k0_t1_loop.lb k0_t1_loop.ub k0_t1_loop.st)).2.2.1 ++ run_first.sl.H24_1)) = tails I.h1b I.wup k0_pay12 10 := by
    refine (read_append arg24.view _ rfl).trans (ht.trans ?_)
    rw [h5]
  have e115 : k0_pay26 (run_first.sl.v115 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23) = k0_pay4 (slab k0_pay12 10) := by
    unfold run_first.sl.v115
    refine congrArg k0_pay26 ((View.readAt_unit arg24.view _ _ rfl inb_S11x8x512_S1x8x512_10_0_0).trans ?_)
    rw [e24]
    exact (window_slab (tails I.h1b I.wup k0_pay12 10) 10 (by omega) _ rfl _).trans (slab_tails _ _ _ _ _ (by omega) (by omega))
  have ew : ∀ (o : ℕ) (inb : ∀ a, (![o, 0] : Fin 2 → ℕ) a + S512x512.size a ≤ S520x512.size a),
      View.readAt (Elt F) arg22.view (Rect.unit (s := S520x512) ![o, 0] S512x512.size inb).toLoadRect
        (arg22.view.writes (Elt F) f22 (run_first.sl.H22_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23)) = VecWindow.window (I.last k0_pay12) ![o, 0] S512x512.size inb := fun o inb => by
    unfold run_first.sl.H22_1
    rw [View.readAt_unit arg22.view _ inb rfl inb, View.read_writes_cons_put arg22.view _ _ _ _ rfl, e115, read_append arg22.view _ rfl, put_glue _ _ _ (hp.trans (by rw [h5]))]
    rfl
  have e122 : run_first.sl.v122 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23 = up I.h1b I.wup 10 := by
    unfold run_first.sl.v122
    refine (readCov_base arg22.view f22 _ _ (k0_pay20 (run_first.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))) ?_).trans ((ew 8 inb_S520x512_S512x512_8_0).trans ?_)
    · unfold run_first.sl.H22_1
      exact List.mem_cons_of_mem _ (List.mem_append_right _ (List.mem_singleton_self _))
    · exact window_glue _ _
  have er7 : run_first.sl.r_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23 = k0_pay25 (accs I.h1b I.wup I.cw I.wd k0_pay12 5) (acts I.h1b I.wup I.cw k0_pay12 5) (wdRows I.wd 2048) := by
    unfold run_first.sl.r_7
    rw [e109, e110, View.readAt_unit arg15.view _ _ rfl inb_S2816x1024_S512x1024_2048_0, hf15]
    exact congrArg (k0_pay25 _ _) (window_wdRows I.wd 2048 (by omega) _ rfl _)
  have er8 : run_first.sl.r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23 = k0_pay28 (slab I.cw 10) (up I.h1b I.wup 10) (VecWindow.window (I.last k0_pay12) ![6, 0] S512x512.size inb_S520x512_S512x512_6_0)
        (VecWindow.window (I.last k0_pay12) ![7, 0] S512x512.size inb_S520x512_S512x512_7_0) := by
    unfold run_first.sl.r_8
    rw [e122, ew 6, ew 7, View.readAt_unit arg14.view _ _ rfl inb_S11x8x512_S1x8x512_10_0_0, hf14]
    exact congrArg (fun w => k0_pay28 w _ _ _) (window_slab I.cw 10 (by omega) _ rfl _)
  have eout : k0_pay1 (run_first.sl.r_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23) (run_first.sl.r_11 c arg20 harg20 I) = I.out k0_pay12 := by
    unfold run_first.sl.r_10
    rw [er4, er6, er7, er8, er9, er11, View.readAt_unit arg15.view _ _ rfl inb_S2816x1024_S256x1024_2560_0, hf15, View.readAt_full, hf19]
    rfl
  have ecarry : View.read (Elt F) arg24.view (arg24.view.writes (Elt F) arg24.view.junk (⟨Rect.unit ![10, 0, 0] S1x8x512.size inb_S11x8x512_S1x8x512_10_0_0, k0_pay30 (run_first.sl.v122 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I f22 f23)⟩ :: ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay22 (harg13.unread I.wup) (harg14.unread I.cw) (harg15.unread I.wd) (arg25.view.writes (Elt F) arg25.view.junk (run_first.sl.H25_1 c arg2 harg2 arg3 harg3 arg4 harg4 arg5 harg5 arg7 harg7 arg8 harg8 arg9 harg9 arg10 harg10 arg11 harg11 arg12 harg12 I)) (arg22.view.writes (Elt F) f22 [⟨Rect.unit ![8, 0] S512x512.size inb_S520x512_S512x512_8_0, k0_pay20 (run_first.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))⟩]) f23 (arg24.view.writes (Elt F) arg24.view.junk run_first.sl.H24_1) (arg26.view.writes (Elt F) arg26.view.junk run_first.sl.H26_1) (arg27.view.writes (Elt F) arg27.view.junk run_first.sl.H27_1) (Scf.trips k0_t1_loop.lb k0_t1_loop.ub k0_t1_loop.st)).2.2.1 ++ run_first.sl.H24_1))) = I.carry k0_pay12 := by
    rw [View.read_writes_cons_put arg24.view _ _ _ _ rfl, e24, e122]
    exact put_tails _ _ _ 10 (by omega)
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  isplitl [H12]
  · iexists _; isplitr
    · ipureintro; exact hf12
    · iexact H12
  isplitl [H13]
  · iexists _; isplitr
    · ipureintro; exact hf13
    · iexact H13
  isplitl [H14]
  · iexists _; isplitr
    · ipureintro; exact hf14
    · iexact H14
  isplitl [H15]
  · iexists _; isplitr
    · ipureintro; exact hf15
    · iexact H15
  isplitl [H16]
  · iexists _; isplitr
    · ipureintro; exact hf16
    · iexact H16
  isplitl [H17]
  · iexists _; isplitr
    · ipureintro; exact hf17
    · iexact H17
  isplitl [H18]
  · iexists _; isplitr
    · ipureintro; exact hf18
    · iexact H18
  isplitl [H19]
  · iexists _; isplitr
    · ipureintro; exact hf19
    · iexact H19
  isplitl [H20]
  · iexists _; isplitr
    · ipureintro; exact hf20
    · iexact H20
  isplitl [H21]
  · iapply full_owns c arg21 eout
    iexact H21
  isplitl [H22]
  · iapply some_owns c arg22
    iexact H22
  isplitl [H23]
  · iapply some_owns c arg23
    iexact H23
  isplitl [H24]
  · iexists _; isplitr
    · ipureintro; exact ecarry
    · iexact H24
  isplitl [H25]
  · iapply some_owns c arg25
    iexact H25
  isplitl [H26]
  · iapply some_owns c arg26
    iexact H26
  iapply some_owns c arg27
  iexact H27

end Cert.Proof.Post

end
-- ==== Proof.PostNext.lean ====
/- The post call: the body run on a later tile of a sequence. -/
module

public import proofs.«01_k».proof.Proof.PostOwn
public import proofs.«01_k».proof.Proof.Gen.KernelIdeal.Launch
public import Idealize.ShloMosaic.Lib.Exec
public import Idealize.ShloMosaic.Lib.VecWindow
public import Idealize.ShloMosaic.Lib.ValueIdx
public import Idealize.ShloMosaic.Lib.Tactic
public import Idealize.ShloMosaic.Lib.Pipeline.Kit

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on one tile, not the first of its sequence. -/
theorem run_next (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S11x1024x512 .bf16) (harg13 : arg13.IsWhole) (arg14 : Memref sig .tc .vmem S11x8x512 .f32) (harg14 : arg14.IsWhole) (arg15 : Memref sig .tc .vmem S2816x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x512x1024 .f32) (harg21 : arg21.IsWhole) (arg22 : Memref sig .tc .vmem S520x512 .f32) (harg22 : arg22.IsWhole) (arg23 : Memref sig .tc .vmem S520x512 .f32) (harg23 : arg23.IsWhole) (arg24 : Memref sig .tc .vmem S11x8x512 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x1024 .f32) (harg27 : arg27.IsWhole) (I : Ins F)
    (hc : ¬ cond0_0 i) (C : Vec F S11x8x512 .f32) (E : Set ℕ) (K : PUnit → sProp 𝕄) :
    iprop(owns (c : Thread nD τ) arg2 fullShare I.x ∗ owns (c : Thread nD τ) arg3 fullShare I.att ∗ owns (c : Thread nD τ) arg4 fullShare I.sig ∗ owns (c : Thread nD τ) arg5 fullShare I.mconv ∗ owns (c : Thread nD τ) arg6 fullShare I.p ∗ owns (c : Thread nD τ) arg7 fullShare I.lng ∗ owns (c : Thread nD τ) arg8 fullShare I.lnb ∗ owns (c : Thread nD τ) arg9 fullShare I.wbra ∗ owns (c : Thread nD τ) arg10 fullShare I.wo ∗ owns (c : Thread nD τ) arg11 fullShare I.l1g ∗ owns (c : Thread nD τ) arg12 fullShare I.l1b ∗ owns (c : Thread nD τ) arg13 fullShare I.wup ∗ owns (c : Thread nD τ) arg14 fullShare I.cw ∗ owns (c : Thread nD τ) arg15 fullShare I.wd ∗ owns (c : Thread nD τ) arg16 fullShare I.wpg ∗ owns (c : Thread nD τ) arg17 fullShare I.bpg ∗ owns (c : Thread nD τ) arg18 fullShare I.wple ∗ owns (c : Thread nD τ) arg19 fullShare I.l2g ∗ owns (c : Thread nD τ) arg20 fullShare I.l2b ∗ (∃ d, owns (c : Thread nD τ) arg21 fullShare d) ∗ (∃ d, owns (c : Thread nD τ) arg22 fullShare d) ∗ (∃ d, owns (c : Thread nD τ) arg23 fullShare d) ∗ owns (c : Thread nD τ) arg24 fullShare C ∗ (∃ d, owns (c : Thread nD τ) arg25 fullShare d) ∗ (∃ d, owns (c : Thread nD τ) arg26 fullShare d) ∗ (∃ d, owns (c : Thread nD τ) arg27 fullShare d)
      ∗ (owns (c : Thread nD τ) arg2 fullShare I.x ∗ owns (c : Thread nD τ) arg3 fullShare I.att ∗ owns (c : Thread nD τ) arg4 fullShare I.sig ∗ owns (c : Thread nD τ) arg5 fullShare I.mconv ∗ owns (c : Thread nD τ) arg6 fullShare I.p ∗ owns (c : Thread nD τ) arg7 fullShare I.lng ∗ owns (c : Thread nD τ) arg8 fullShare I.lnb ∗ owns (c : Thread nD τ) arg9 fullShare I.wbra ∗ owns (c : Thread nD τ) arg10 fullShare I.wo ∗ owns (c : Thread nD τ) arg11 fullShare I.l1g ∗ owns (c : Thread nD τ) arg12 fullShare I.l1b ∗ owns (c : Thread nD τ) arg13 fullShare I.wup ∗ owns (c : Thread nD τ) arg14 fullShare I.cw ∗ owns (c : Thread nD τ) arg15 fullShare I.wd ∗ owns (c : Thread nD τ) arg16 fullShare I.wpg ∗ owns (c : Thread nD τ) arg17 fullShare I.bpg ∗ owns (c : Thread nD τ) arg18 fullShare I.wple ∗ owns (c : Thread nD τ) arg19 fullShare I.l2g ∗ owns (c : Thread nD τ) arg20 fullShare I.l2b ∗ owns (c : Thread nD τ) arg21 fullShare (I.out C) ∗ (∃ d, owns (c : Thread nD τ) arg22 fullShare d) ∗ (∃ d, owns (c : Thread nD τ) arg23 fullShare d) ∗ owns (c : Thread nD τ) arg24 fullShare (I.carry C) ∗ (∃ d, owns (c : Thread nD τ) arg25 fullShare d) ∗ (∃ d, owns (c : Thread nD τ) arg26 fullShare d) ∗ (∃ d, owns (c : Thread nD τ) arg27 fullShare d) -∗ K PUnit.unit))
    ⊢ wp frame (wpE (defs₀ (F := F)) Variants.none (c : Thread nD τ) none) E (cc0__post_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__post_kernel_eq_skeleton]
  unfold cc0__post_kernel_skel
  simp only [k0_part4_eq_skeleton, k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, %hf21, H21⟩, ⟨%d22, %f22, %hf22, H22⟩, ⟨%d23, %f23, %hf23, H23⟩, ⟨%f24, %hf24, H24⟩, ⟨%d25, %f25, %hf25, H25⟩, ⟨%d26, %f26, %hf26, H26⟩, ⟨%d27, %f27, %hf27, H27⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg24.eq_unread hf24
  sl_exec (disch := first | sl_exact hc)
  sl_step
  have er : run_next.sl.r c arg2 harg2 arg7 harg7 arg8 harg8 I = k0_pay13 I.x I.lng I.lnb := by
    unfold run_next.sl.r
    rw [View.readAt_full, View.readAt_full, View.readAt_full, hf2, hf7, hf8]
  have er1 : run_next.sl.r_1 c arg4 harg4 I = k0_pay14 I.sig := by
    unfold run_next.sl.r_1
    rw [View.readAt_full, hf4]
  have er2 : run_next.sl.r_2 c arg3 harg3 I = k0_pay15 I.att := by
    unfold run_next.sl.r_2
    rw [View.readAt_full, hf3]
  have er3 : run_next.sl.r_3 c arg9 harg9 I = I.wbra := by
    unfold run_next.sl.r_3
    rw [View.readAt_full, hf9]
  have er4 : run_next.sl.r_4 c arg2 harg2 arg3 harg3 arg4 harg4 arg5 harg5 arg7 harg7 arg8 harg8 arg9 harg9 arg10 harg10 arg11 harg11 arg12 harg12 I = I.h1 := by
    unfold run_next.sl.r_4
    rw [er, er1, er2, er3, View.readAt_full, View.readAt_full, View.readAt_full, View.readAt_full, hf5, hf10, hf11, hf12]
    rfl
  have e25 : View.read (Elt F) arg25.view (arg25.view.writes (Elt F) arg25.view.junk (run_next.sl.H25_1 c arg2 harg2 arg3 harg3 arg4 harg4 arg5 harg5 arg7 harg7 arg8 harg8 arg9 harg9 arg10 harg10 arg11 harg11 arg12 harg12 I)) = I.h1b := by
    unfold run_next.sl.H25_1 run_next.sl.r_5
    rw [View.read_writes_full, er, er1, er2, er3, View.readAt_full, View.readAt_full, View.readAt_full, View.readAt_full, hf5, hf10, hf11, hf12]
    rfl
  have e77 : run_next.sl.v77 c arg2 harg2 arg3 harg3 arg4 harg4 arg5 harg5 arg7 harg7 arg8 harg8 arg9 harg9 arg10 harg10 arg11 harg11 arg12 harg12 arg25 I = I.h1b := by
    unfold run_next.sl.v77
    exact (View.readAt_full arg25.view _ _).trans e25
  have er6 : run_next.sl.r_6 c arg2 harg2 arg3 harg3 arg4 harg4 arg5 harg5 arg6 harg6 arg7 harg7 arg8 harg8 arg9 harg9 arg10 harg10 arg11 harg11 arg12 harg12 arg16 harg16 arg17 harg17 arg18 harg18 arg25 I = I.ple := by
    unfold run_next.sl.r_6
    rw [e77, View.readAt_full, View.readAt_full, View.readAt_full, View.readAt_full, hf16, hf17, hf6, hf18]
    rfl
  have er9 : run_next.sl.r_9 arg14 harg14 I = k0_pay29 (slab I.cw 10) := by
    unfold run_next.sl.r_9
    rw [View.readAt_unit arg14.view _ _ rfl inb_S11x8x512_S1x8x512_10_0_0, hf14]
    exact congrArg k0_pay29 (window_slab I.cw 10 (by omega) _ rfl _)
  have er11 : run_next.sl.r_11 c arg20 harg20 I = k0_pay32 I.l2b := by
    unfold run_next.sl.r_11
    rw [View.readAt_full, hf20]
  have e8 : k0_pay20 (run_next.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup)) = up I.h1b I.wup 0 := by
    rw [e77, View.readAt_unit arg13.view _ _ rfl inb_S11x1024x512_S1x1024x512_0_0_0, hf13]
    exact congrArg (k0_pay20 I.h1b) (window_slab I.wup 0 (by omega) _ rfl _)
  have h24 : View.read (Elt F) arg24.view (harg24.unread C) = C := hf24
  have h26 : View.read (Elt F) arg26.view (arg26.view.writes (Elt F) arg26.view.junk run_next.sl.H26_1) = k0_pay21 := by
    unfold run_next.sl.H26_1
    rw [View.read_writes_full]
  have h27 : View.read (Elt F) arg27.view (arg27.view.writes (Elt F) arg27.view.junk run_next.sl.H27_1) = k0_pay23 k0_pay22 := by
    unfold run_next.sl.H27_1
    rw [View.read_writes_full]
  have hF := found_trips i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay22 c (harg13.unread I.wup) (harg14.unread I.cw) (harg15.unread I.wd) (arg25.view.writes (Elt F) arg25.view.junk (run_next.sl.H25_1 c arg2 harg2 arg3 harg3 arg4 harg4 arg5 harg5 arg7 harg7 arg8 harg8 arg9 harg9 arg10 harg10 arg11 harg11 arg12 harg12 I)) (arg22.view.writes (Elt F) f22 [⟨Rect.unit ![8, 0] S512x512.size inb_S520x512_S512x512_8_0, k0_pay20 (run_next.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))⟩]) f23 (harg24.unread C) (arg26.view.writes (Elt F) arg26.view.junk run_next.sl.H26_1) (arg27.view.writes (Elt F) arg27.view.junk run_next.sl.H27_1) C
    ⟨by
      rw [View.read_writes_cons_put arg22.view _ _ _ _ rfl, e25, hf13]
      exact (VecWindow.window_put_same ..).trans e8,
    h24.trans (funext fun y => (if_neg (Nat.not_lt_zero _)).symm), h26, h27⟩ (Scf.trips k0_t1_loop.lb k0_t1_loop.ub k0_t1_loop.st) (Nat.le_refl _)
  obtain ⟨hp, ht, ha, hacc⟩ := hF
  rw [e25, hf13] at hp ht
  rw [e25, hf13, hf14] at ha
  rw [e25, hf13, hf14, hf15] at hacc
  have h5 : Scf.trips k0_t1_loop.lb k0_t1_loop.ub k0_t1_loop.st = 5 := trips_eq
  have e109 : run_next.sl.v109 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23 = accs I.h1b I.wup I.cw I.wd C 5 := by
    unfold run_next.sl.v109
    refine (View.readAt_full arg27.view _ _).trans ((read_append arg27.view _ rfl).trans (hacc.trans ?_))
    rw [h5]
  have e110 : run_next.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23 = acts I.h1b I.wup I.cw C 5 := by
    unfold run_next.sl.v110
    refine (View.readAt_full arg26.view _ _).trans ((read_append arg26.view _ rfl).trans (ha.trans ?_))
    rw [h5]
  have e24 : View.read (Elt F) arg24.view (arg24.view.writes (Elt F) (harg24.unread C) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay22 (harg13.unread I.wup) (harg14.unread I.cw) (harg15.unread I.wd) (arg25.view.writes (Elt F) arg25.view.junk (run_next.sl.H25_1 c arg2 harg2 arg3 harg3 arg4 harg4 arg5 harg5 arg7 harg7 arg8 harg8 arg9 harg9 arg10 harg10 arg11 harg11 arg12 harg12 I)) (arg22.view.writes (Elt F) f22 [⟨Rect.unit ![8, 0] S512x512.size inb_S520x512_S512x512_8_0, k0_pay20 (run_next.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))⟩]) f23 (harg24.unread C) (arg26.view.writes (Elt F) arg26.view.junk run_next.sl.H26_1) (arg27.view.writes (Elt F) arg27.view.junk run_next.sl.H27_1) (Scf.trips k0_t1_loop.lb k0_t1_loop.ub k0_t1_loop.st)).2.2.1) = tails I.h1b I.wup C 10 := by
    refine ht.trans ?_
    rw [h5]
  have e115 : k0_pay26 (run_next.sl.v115 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23) = k0_pay4 (slab C 10) := by
    unfold run_next.sl.v115
    refine congrArg k0_pay26 ((View.readAt_unit arg24.view _ _ rfl inb_S11x8x512_S1x8x512_10_0_0).trans ?_)
    rw [e24]
    exact (window_slab (tails I.h1b I.wup C 10) 10 (by omega) _ rfl _).trans (slab_tails _ _ _ _ _ (by omega) (by omega))
  have ew : ∀ (o : ℕ) (inb : ∀ a, (![o, 0] : Fin 2 → ℕ) a + S512x512.size a ≤ S520x512.size a),
      View.readAt (Elt F) arg22.view (Rect.unit (s := S520x512) ![o, 0] S512x512.size inb).toLoadRect
        (arg22.view.writes (Elt F) f22 (run_next.sl.H22_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23)) = VecWindow.window (I.last C) ![o, 0] S512x512.size inb := fun o inb => by
    unfold run_next.sl.H22_1
    rw [View.readAt_unit arg22.view _ inb rfl inb, View.read_writes_cons_put arg22.view _ _ _ _ rfl, e115, read_append arg22.view _ rfl, put_glue _ _ _ (hp.trans (by rw [h5]))]
    rfl
  have e122 : run_next.sl.v122 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23 = up I.h1b I.wup 10 := by
    unfold run_next.sl.v122
    refine (readCov_base arg22.view f22 _ _ (k0_pay20 (run_next.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))) ?_).trans ((ew 8 inb_S520x512_S512x512_8_0).trans ?_)
    · unfold run_next.sl.H22_1
      exact List.mem_cons_of_mem _ (List.mem_append_right _ (List.mem_singleton_self _))
    · exact window_glue _ _
  have er7 : run_next.sl.r_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23 = k0_pay25 (accs I.h1b I.wup I.cw I.wd C 5) (acts I.h1b I.wup I.cw C 5) (wdRows I.wd 2048) := by
    unfold run_next.sl.r_7
    rw [e109, e110, View.readAt_unit arg15.view _ _ rfl inb_S2816x1024_S512x1024_2048_0, hf15]
    exact congrArg (k0_pay25 _ _) (window_wdRows I.wd 2048 (by omega) _ rfl _)
  have er8 : run_next.sl.r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23 = k0_pay28 (slab I.cw 10) (up I.h1b I.wup 10) (VecWindow.window (I.last C) ![6, 0] S512x512.size inb_S520x512_S512x512_6_0)
        (VecWindow.window (I.last C) ![7, 0] S512x512.size inb_S520x512_S512x512_7_0) := by
    unfold run_next.sl.r_8
    rw [e122, ew 6, ew 7, View.readAt_unit arg14.view _ _ rfl inb_S11x8x512_S1x8x512_10_0_0, hf14]
    exact congrArg (fun w => k0_pay28 w _ _ _) (window_slab I.cw 10 (by omega) _ rfl _)
  have eout : k0_pay1 (run_next.sl.r_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23) (run_next.sl.r_11 c arg20 harg20 I) = I.out C := by
    unfold run_next.sl.r_10
    rw [er4, er6, er7, er8, er9, er11, View.readAt_unit arg15.view _ _ rfl inb_S2816x1024_S256x1024_2560_0, hf15, View.readAt_full, hf19]
    rfl
  have ecarry : View.read (Elt F) arg24.view (arg24.view.writes (Elt F) (harg24.unread C) (⟨Rect.unit ![10, 0, 0] S1x8x512.size inb_S11x8x512_S1x8x512_10_0_0, k0_pay30 (run_next.sl.v122 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 I C f22 f23)⟩ :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_pay22 (harg13.unread I.wup) (harg14.unread I.cw) (harg15.unread I.wd) (arg25.view.writes (Elt F) arg25.view.junk (run_next.sl.H25_1 c arg2 harg2 arg3 harg3 arg4 harg4 arg5 harg5 arg7 harg7 arg8 harg8 arg9 harg9 arg10 harg10 arg11 harg11 arg12 harg12 I)) (arg22.view.writes (Elt F) f22 [⟨Rect.unit ![8, 0] S512x512.size inb_S520x512_S512x512_8_0, k0_pay20 (run_next.sl.v77 c arg2 harg2 arg3 harg3 arg4 harg4 arg5 harg5 arg7 harg7 arg8 harg8 arg9 harg9 arg10 harg10 arg11 harg11 arg12 harg12 arg25 I) (View.readAt (Elt F) arg13.view (Rect.unit (s := S11x1024x512) ![0, 0, 0] S1x1024x512.size inb_S11x1024x512_S1x1024x512_0_0_0).toLoadRect (harg13.unread I.wup))⟩]) f23 (harg24.unread C) (arg26.view.writes (Elt F) arg26.view.junk run_next.sl.H26_1) (arg27.view.writes (Elt F) arg27.view.junk run_next.sl.H27_1) (Scf.trips k0_t1_loop.lb k0_t1_loop.ub k0_t1_loop.st)).2.2.1)) = I.carry C := by
    rw [View.read_writes_cons_put arg24.view _ _ _ _ rfl, e24, e122]
    exact put_tails _ _ _ 10 (by omega)
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  isplitl [H12]
  · iexists _; isplitr
    · ipureintro; exact hf12
    · iexact H12
  isplitl [H13]
  · iexists _; isplitr
    · ipureintro; exact hf13
    · iexact H13
  isplitl [H14]
  · iexists _; isplitr
    · ipureintro; exact hf14
    · iexact H14
  isplitl [H15]
  · iexists _; isplitr
    · ipureintro; exact hf15
    · iexact H15
  isplitl [H16]
  · iexists _; isplitr
    · ipureintro; exact hf16
    · iexact H16
  isplitl [H17]
  · iexists _; isplitr
    · ipureintro; exact hf17
    · iexact H17
  isplitl [H18]
  · iexists _; isplitr
    · ipureintro; exact hf18
    · iexact H18
  isplitl [H19]
  · iexists _; isplitr
    · ipureintro; exact hf19
    · iexact H19
  isplitl [H20]
  · iexists _; isplitr
    · ipureintro; exact hf20
    · iexact H20
  isplitl [H21]
  · iapply full_owns c arg21 eout
    iexact H21
  isplitl [H22]
  · iapply some_owns c arg22
    iexact H22
  isplitl [H23]
  · iapply some_owns c arg23
    iexact H23
  isplitl [H24]
  · iexists _; isplitr
    · ipureintro; exact ecarry
    · iexact H24
  isplitl [H25]
  · iapply some_owns c arg25
    iexact H25
  isplitl [H26]
  · iapply some_owns c arg26
    iexact H26
  iapply some_owns c arg27
  iexact H27

end Cert.Proof.Post

end
-- ==== Proof.PostPoints.lean ====
/- The post call: the blocks that each point of its grid reads, and the tails it starts from and leaves. -/
module

public import proofs.«01_k».proof.Proof.PostTile
public import proofs.«01_k».proof.Proof.Gen.KernelIdeal.Frame

@[expose] public section

set_option maxRecDepth 16384

noncomputable section

namespace Cert.Proof.Post

open Cert.KernelIdeal Cert.KernelIdeal.Gen
open Idealize.ShloMosaic Idealize.ShloMosaic.TcCoe

variable {F : FTy → Type} [FloatOps F]
variable (m : (ℓ : Loc nD τ sig) → Buf (Elt F) ℓ)

/-- The blocks that point `t` reads. -/
def insAt (c : Dev nD) (t : Fin cfg0.N) : Ins F where
  x := iblk m c 0 t
  att := iblk m c 1 t
  sig := iblk m c 2 t
  mconv := iblk m c 3 t
  p := iblk m c 4 t
  lng := iblk m c 5 t
  lnb := iblk m c 6 t
  wbra := iblk m c 7 t
  wo := iblk m c 8 t
  l1g := iblk m c 9 t
  l1b := iblk m c 10 t
  wup := iblk m c 11 t
  cw := iblk m c 12 t
  wd := iblk m c 13 t
  wpg := iblk m c 14 t
  bpg := iblk m c 15 t
  wple := iblk m c 16 t
  l2g := iblk m c 17 t
  l2b := iblk m c 18 t

/-- The tails that point `n` leaves. -/
def leftAt (c : Dev nD) : (n : ℕ) → n < cfg0.N → Vec F S11x8x512 .f32
  | 0, h => (insAt m c ⟨0, h⟩).carry k0_pay12
  | n + 1, h => (insAt m c ⟨n + 1, h⟩).carry (if (n + 1) % 8 = 0 then k0_pay12 else leftAt c n (Nat.lt_of_succ_lt h))

/-- The tails that point `t` starts from: zeros at a sequence's first tile, what the point before left at any other. -/
def startAt (c : Dev nD) (t : Fin cfg0.N) : Vec F S11x8x512 .f32 :=
  if t.val % 8 = 0 then k0_pay12 else leftAt m c (t.val - 1) (Nat.lt_of_le_of_lt (Nat.sub_le _ _) t.isLt)

/-- What a point leaves is the tile's own step from what it starts from. -/
theorem leftAt_eq (c : Dev nD) (t : Fin cfg0.N) : leftAt m c t.val t.isLt = (insAt m c t).carry (startAt m c t) := by
  obtain ⟨n, hn⟩ := t
  cases n with
  | zero => rfl
  | succ n => rfl

/-- A sequence's first tile starts from zeros, -/
theorem startAt_first (c : Dev nD) (t : Fin cfg0.N) (h : t.val % 8 = 0) : startAt m c t = k0_pay12 := if_pos h
/-- and any other from what the point before left. -/
theorem startAt_next (c : Dev nD) (t : Fin cfg0.N) (h : ¬ t.val % 8 = 0) :
    startAt m c t = leftAt m c (t.val - 1) (Nat.lt_of_le_of_lt (Nat.sub_le _ _) t.isLt) := if_neg h

end Cert.Proof.Post

end
-- ==== Proof.PostFrame.lean ====
/- The post call: its launch, and the frame of its arguments. -/
module

public import proofs.«01_k».proof.Proof.PostFirst
public import proofs.«01_k».proof.Proof.PostNext
public import proofs.«01_k».proof.Proof.PostPoints
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the first tile of each sequence. -/
theorem hcond0_0 : ∀ t : Fin cfg0.N, cond0_0 (grid0.coords t) ↔ t.val % 8 = 0 := fun t => by
  have ht : t.val < 64 := Nat.lt_of_lt_of_eq t.isLt N_0
  have e0 : (grid0.coords t 0).val = t.val / 8 % 8 := Pipeline.Grid.coords_val t 0 (by decide) rfl
  have e1 : (grid0.coords t 1).val = t.val / 1 % 8 := Pipeline.Grid.coords_val t 1 (by decide) rfl
  simp only [cond0_0, e0, e1]
  word_cmp

/-! ## What the launch holds at each point -/

/-- The scratch, each buffer at some state, and the generator register at some state. -/
theorem PhiA0_eq (c : Dev nD) : (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What is held between points: at the start the scratch at anything, after point `n` the tails at what it left. -/
def PhiS (c : Dev nD) : (n : ℕ) → n ≤ cfg0.N → sProp 𝕄
  | 0, _ => Pipeline.ΦA spec0 c
  | n + 1, hn => iprop(iprop((∃ d, owns (c : Thread nD τ) (Memref.whole cc0_scratch0) fullShare d) ∗ (∃ d, owns (c : Thread nD τ) (Memref.whole cc0_scratch1) fullShare d) ∗ owns (c : Thread nD τ) (Memref.whole cc0_scratch2) fullShare (leftAt m c n (Nat.lt_of_succ_le hn)) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r))
theorem PhiS_zero (c : Dev nD) (n : ℕ) (hn : n ≤ cfg0.N) (hz : n = 0) : PhiS m c n hn = Pipeline.ΦA spec0 c := by
  subst hz; rfl
theorem PhiS_succ (c : Dev nD) (n : ℕ) (hn : n + 1 ≤ cfg0.N) : PhiS m c (n + 1) hn = iprop(iprop((∃ d, owns (c : Thread nD τ) (Memref.whole cc0_scratch0) fullShare d) ∗ (∃ d, owns (c : Thread nD τ) (Memref.whole cc0_scratch1) fullShare d) ∗ owns (c : Thread nD τ) (Memref.whole cc0_scratch2) fullShare (leftAt m c n (Nat.lt_of_succ_le hn)) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := rfl
theorem PhiS_pos (c : Dev nD) (n : ℕ) (hn : n ≤ cfg0.N) (h : n ≠ 0) :
    PhiS m c n hn = iprop(iprop((∃ d, owns (c : Thread nD τ) (Memref.whole cc0_scratch0) fullShare d) ∗ (∃ d, owns (c : Thread nD τ) (Memref.whole cc0_scratch1) fullShare d) ∗ owns (c : Thread nD τ) (Memref.whole cc0_scratch2) fullShare (leftAt m c (n - 1) (Nat.lt_of_lt_of_le (Nat.sub_lt (Nat.pos_of_ne_zero h) (Nat.lt_succ_self 0)) hn)) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  cases n with
  | zero => exact absurd rfl h
  | succ n => rfl

/-- The proof data: the arrays as the region finds them, each input's block left in place, the output's block the tile's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (insAt m c t).out (startAt m c t)
    | ⟨_ + 20, h⟩ => absurd h (Nat.not_lt.2 (Nat.le_add_left _ _))
  Φ t := PhiS m c t.val (Nat.le_of_lt_succ t.isLt)
  q _ := fullShare
  owed _ := 0
theorem A_eq (c : Dev nD) (w : Fin cfg0.W) : (dats m 0 c).A w = V m c (Pipeline.arrRef spec0 w) := rfl
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (insAt m c t).out (startAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- Whatever is held between points, the scratch is there at some state. -/
theorem Phi_any (c : Dev nD) (t : Fin (cfg0.N + 1)) : (dats m 0 c).Φ t ⊢ Pipeline.ΦA spec0 c := by
  rw [show (dats m 0 c).Φ t = PhiS m c t.val (Nat.le_of_lt_succ t.isLt) from rfl]
  by_cases hz : t.val = 0
  · rw [PhiS_zero m c _ _ hz]
  · rw [PhiS_pos m c _ _ hz, PhiA0_eq]
    iintro ⟨⟨S0, S1, S2, S⟩, Hg⟩
    isplitr [Hg]
    · isplitl [S0]
      · iexact S0
      isplitl [S1]
      · iexact S1
      isplitl [S2]
      · iexists _; iexact S2
      iexact S
    · iexact Hg

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t))

set_option maxHeartbeats 4000000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ, leftAt_eq]
  by_cases h0 : t.val % 8 = 0
  · refine (sep_mono (Phi_any m c _) .rfl).trans ?_
    rw [PhiA0_eq, startAt_first m c t h0]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (run_first c (grid0.coords t) _ _ _ _ _ _ _ _ _ _ _ _ _ _ _ _ _ _ _ _ _ _ _ _ _ _ _ _ _ _ _ _ _ _ _ _ _ _ _ _ _ _ _ _ _ _ _ _ _ _ _ _ (insAt m c t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, H14, H15, H16, H17, H18, H19, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        iexact S5
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [PhiS_castSucc m c t, PhiS_pos m c _ _ (fun h => h0 (by rw [h])), startAt_next m c t h0]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (run_next c (grid0.coords t) _ _ _ _ _ _ _ _ _ _ _ _ _ _ _ _ _ _ _ _ _ _ _ _ _ _ _ _ _ _ _ _ _ _ _ _ _ _ _ _ _ _ _ _ _ _ _ _ _ _ _ _ (insAt m c t) (fun h => h0 ((hcond0_0 t).mp h)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, H14, H15, H16, H17, H18, H19, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        iexact S5
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the scratch. -/
theorem hin (c : Dev nD) : Pipeline.ΦA spec0 c ⊢ (dats m 0 c).Φ 0 := by
  rw [show (dats m 0 c).Φ 0 = PhiS m c 0 (Nat.zero_le _) from rfl, PhiS_zero m c 0 _ rfl]

set_option backward.isDefEq.respectTransparency.types false in
/-- The launch runs to its end, from any memory: every array ends as the proof data say, the semaphores at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := fun c => Phi_any m c _)

/-- The arrays' contents at the end, without the semaphores. -/
theorem run_arrays : θ_run defs (onTc (τ := τ) (main (F := F))) (s₀ m ρ) (Pipeline.FramePost cfgs (dats m) 0 (V m)) :=
  (θ_run defs _ _).mono (fun _ h => h.1) (run_main m ρ)

/-- The frame of the post call: its arguments end as they were, and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) (run_arrays m ρ)) ((θ_run defs _ _).mono (fun _ h => h.2) (run_main m ρ))

end Cert.Proof.Post

end
-- ==== Proof.PostHost.lean ====
/- The post call over the extended reals: the arrays that the host prepares, read at an index. -/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Proof.Post

open Cert.KernelIdeal Cert.KernelIdeal.Gen
open Idealize.ShloMosaic Idealize.ShloMosaic.TcCoe

variable (m : (ℓ : Loc nD τ sig) → Buf (Elt Ideal) ℓ) (c : Dev nD)

/-- An argument as the program was launched with it. -/
abbrev arg (b : Ref sig .tc) : Buf (Elt Ideal) ((c : Thread nD τ).loc b) := m ((c : Thread nD τ).loc b)

/-- The channel of the up-projection at column `l` of chunk `n`: the first half of a chunk's columns are gates, the other half values. -/
def col (n : Fin 11) (l : Fin 512) : Fin 5632 :=
  if h : l.val < 256 then ⟨n.val * 256 + l.val, by omega⟩ else ⟨2816 + (n.val * 256 + (l.val - 256)), by omega⟩

theorem host5 (k : Fin 1024) : (V m c main_v21 : FVec Ideal S1x1024 .f32) (ix2 0 k) = (arg m c main_arg5 : FVec Ideal S1024 .f32) (ix1 k) := by
  unfold V
  after_reads_at

theorem host6 (k : Fin 1024) : (V m c main_v22 : FVec Ideal S1x1024 .f32) (ix2 0 k) = (arg m c main_arg6 : FVec Ideal S1024 .f32) (ix1 k) := by
  unfold V
  after_reads_at

theorem host7 (k : Fin 512) (l : Fin 1024) : (V m c main_v24 : FVec Ideal S512x1024 .bf16) (ix2 k l) = (arg m c main_arg7 : FVec Ideal S1x512x1024 .f32) (ix3 0 k l) := by
  unfold V
  after_reads_at

theorem host8 (k : Fin 1024) (l : Fin 1024) : (V m c main_v26 : FVec Ideal S1024x1024 .bf16) (ix2 k l) = (arg m c main_arg8 : FVec Ideal S1x1024x1024 .f32) (ix3 0 k l) := by
  unfold V
  after_reads_at

theorem host9 (k : Fin 1024) : (V m c main_v28 : FVec Ideal S1x1024 .f32) (ix2 0 k) = (arg m c main_arg9 : FVec Ideal S1x1024 .f32) (ix2 0 k) := by
  unfold V
  after_reads_at

theorem host10 (k : Fin 1024) : (V m c main_v30 : FVec Ideal S1x1024 .f32) (ix2 0 k) = (arg m c main_arg10 : FVec Ideal S1x1024 .f32) (ix2 0 k) := by
  unfold V
  after_reads_at

theorem host13 (k : Fin 2816) (l : Fin 1024) : (V m c main_v20 : FVec Ideal S2816x1024 .bf16) (ix2 k l) = (arg m c main_arg14 : FVec Ideal S1x2816x1024 .f32) (ix3 0 k l) := by
  unfold V
  after_reads_at

theorem host14 (k : Fin 1024) (l : Fin 1024) : (V m c main_v32 : FVec Ideal S1024x1024 .bf16) (ix2 k l) = (arg m c main_arg15 : FVec Ideal S1x1024x1024 .f32) (ix3 0 k l) := by
  unfold V
  after_reads_at

theorem host15 (k : Fin 1024) : (V m c main_v34 : FVec Ideal S1x1024 .f32) (ix2 0 k) = (arg m c main_arg16 : FVec Ideal S1x1024 .f32) (ix2 0 k) := by
  unfold V
  after_reads_at

theorem host16 (k : Fin 256) (l : Fin 1024) : (V m c main_v36 : FVec Ideal S256x1024 .bf16) (ix2 k l) = (arg m c main_arg17 : FVec Ideal S1x256x1024 .f32) (ix3 0 k l) := by
  unfold V
  after_reads_at

theorem host17 (k : Fin 1024) : (V m c main_v38 : FVec Ideal S1x1024 .f32) (ix2 0 k) = (arg m c main_arg18 : FVec Ideal S1x1024 .f32) (ix2 0 k) := by
  unfold V
  after_reads_at

theorem host18 (k : Fin 1024) : (V m c main_v40 : FVec Ideal S1x1024 .f32) (ix2 0 k) = (arg m c main_arg19 : FVec Ideal S1x1024 .f32) (ix2 0 k) := by
  unfold V
  after_reads_at

/-- The up-projection's weights, chunk by chunk. -/
theorem host11 (n : Fin 11) (k : Fin 1024) (l : Fin 512) : (V m c main_v7 : FVec Ideal S11x1024x512 .bf16) (ix3 n k l)
    = (arg m c main_arg11 : FVec Ideal S1x1024x5632 .f32) (ix3 0 k (col n l)) := by
  unfold V col
  after_reads_at
  by_cases h : l.val < 256
  · simp only [dif_pos h]
    after_reads_at
  · simp only [dif_neg h]
    after_reads_at

/-- The convolution's weights, chunk by chunk. -/
theorem host12 (n : Fin 11) (q : Fin 8) (hq : q.val < 3) (l : Fin 512) : (V m c main_v18 : FVec Ideal S11x8x512 .f32) (ix3 n q l)
    = (arg m c main_arg12 : FVec Ideal S1x3x5632 .f32) (ix3 0 ⟨q.val, hq⟩ (col n l)) := by
  unfold V col
  after_reads_at
  by_cases h : l.val < 256
  · simp only [dif_pos h]
    after_reads_at
    simp only [dif_pos hq]
    after_reads_at
  · simp only [dif_neg h]
    after_reads_at
    simp only [dif_pos hq]
    after_reads_at

/-- The convolution's bias, below its weights. -/
theorem host12_bias (n : Fin 11) (q : Fin 8) (hq : q.val = 3) (l : Fin 512) : (V m c main_v18 : FVec Ideal S11x8x512 .f32) (ix3 n q l)
    = (arg m c main_arg13 : FVec Ideal S1x5632 .f32) (ix2 0 (col n l)) := by
  unfold V col
  after_reads_at
  by_cases h : l.val < 256
  · simp only [dif_pos h]
    after_reads_at
    simp only [dif_neg (show ¬ q.val < 3 by omega), dif_pos (show q.val - 3 < 1 by omega)]
    after_reads_at
  · simp only [dif_neg h]
    after_reads_at
    simp only [dif_neg (show ¬ q.val < 3 by omega), dif_pos (show q.val - 3 < 1 by omega)]
    after_reads_at

end Cert.Proof.Post

end
-- ==== Proof.PostBlocks.lean ====
/- The post call over the extended reals: what a point of its grid reads, in terms of the launch's arguments. -/
module

public import proofs.«01_k».proof.Proof.PostPoints
public import proofs.«01_k».proof.Proof.PostHost
public import Idealize.ShloMosaic.Lib.Pipeline.ValueKit.Geometry
public import Idealize.ShloMosaic.Lib.Pipeline.ValueKit.Point

@[expose] public section

set_option maxRecDepth 16384

noncomputable section

namespace Cert.Proof.Post

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- Where the tiles of the token arrays lie: tile `t % 8` of sequence `t / 8`. -/
theorem idx_tile : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![0, t.val / 8, t.val % 8, 0]
    ∧ win0_19.index t = ![t.val / 8, t.val % 8, 0] := by
  decide +kernel

/-- Each other array is one block. -/
theorem idx_whole : ∀ t : Fin cfg0.N, win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0, 0] ∧ win0_12.index t = ![0, 0, 0] ∧ win0_13.index t = ![0, 0]
    ∧ win0_14.index t = ![0, 0] ∧ win0_15.index t = ![0, 0] ∧ win0_16.index t = ![0, 0] ∧ win0_17.index t = ![0, 0] ∧ win0_18.index t = ![0, 0] := by
  decide +kernel

/-- The sequence that point `t` works on. -/
def sq : Fin 8 := ⟨t.val / 8, by have : t.val < 64 := Nat.lt_of_lt_of_eq t.isLt N_0; omega⟩

/-- The token that row `r` of point `t`'s tile holds. -/
def tok (r : Fin 512) : Fin 4096 := ⟨t.val % 8 * 512 + r.val, by omega⟩

theorem in_x (r : Fin 512) (k : Fin 1024) : (insAt m c t).x (ix3 0 r k) = (arg m c main_arg0 : FVec Ideal S8x4096x1024 .f32) (ix3 (sq t) (tok t r) k) := by
  show iblk m c 0 t (ix3 0 r k) = _
  unfold sq tok
  blk_ext [iblk, V_main_arg0, idx_tile t]

theorem in_att (r : Fin 512) (k : Fin 512) : (insAt m c t).att (ix3 0 r k) = (arg m c main_arg1 : FVec Ideal S8x4096x512 .bf16) (ix3 (sq t) (tok t r) k) := by
  show iblk m c 1 t (ix3 0 r k) = _
  unfold sq tok
  blk_ext [iblk, V_main_arg1, idx_tile t]

theorem in_sig (r : Fin 512) (k : Fin 1024) : (insAt m c t).sig (ix3 0 r k) = (arg m c main_arg2 : FVec Ideal S8x4096x1024 .bf16) (ix3 (sq t) (tok t r) k) := by
  show iblk m c 2 t (ix3 0 r k) = _
  unfold sq tok
  blk_ext [iblk, V_main_arg2, idx_tile t]

theorem in_mconv (r : Fin 512) (k : Fin 1024) : (insAt m c t).mconv (ix3 0 r k) = (arg m c main_arg3 : FVec Ideal S8x4096x1024 .bf16) (ix3 (sq t) (tok t r) k) := by
  show iblk m c 3 t (ix3 0 r k) = _
  unfold sq tok
  blk_ext [iblk, V_main_arg3, idx_tile t]

theorem in_p (r : Fin 512) (k : Fin 256) : (insAt m c t).p (ix4 0 0 r k) = (arg m c main_arg4 : FVec Ideal S1x8x4096x256 .f32) (ix4 0 (sq t) (tok t r) k) := by
  show iblk m c 4 t (ix4 0 0 r k) = _
  unfold sq tok
  blk_ext [iblk, V_main_arg4, idx_tile t]

theorem in_lng (k : Fin 1024) : (insAt m c t).lng (ix2 0 k) = (arg m c main_arg5 : FVec Ideal S1024 .f32) (ix1 k) := by
  refine Eq.trans ?_ (host5 m c k)
  show iblk m c 5 t (ix2 0 k) = _
  blk_ext [iblk, idx_whole t]

theorem in_lnb (k : Fin 1024) : (insAt m c t).lnb (ix2 0 k) = (arg m c main_arg6 : FVec Ideal S1024 .f32) (ix1 k) := by
  refine Eq.trans ?_ (host6 m c k)
  show iblk m c 6 t (ix2 0 k) = _
  blk_ext [iblk, idx_whole t]

theorem in_wbra (k : Fin 512) (l : Fin 1024) : (insAt m c t).wbra (ix2 k l) = (arg m c main_arg7 : FVec Ideal S1x512x1024 .f32) (ix3 0 k l) := by
  refine Eq.trans ?_ (host7 m c k l)
  show iblk m c 7 t (ix2 k l) = _
  blk_ext [iblk, idx_whole t]

theorem in_wo (k : Fin 1024) (l : Fin 1024) : (insAt m c t).wo (ix2 k l) = (arg m c main_arg8 : FVec Ideal S1x1024x1024 .f32) (ix3 0 k l) := by
  refine Eq.trans ?_ (host8 m c k l)
  show iblk m c 8 t (ix2 k l) = _
  blk_ext [iblk, idx_whole t]

theorem in_l1g (k : Fin 1024) : (insAt m c t).l1g (ix2 0 k) = (arg m c main_arg9 : FVec Ideal S1x1024 .f32) (ix2 0 k) := by
  refine Eq.trans ?_ (host9 m c k)
  show iblk m c 9 t (ix2 0 k) = _
  blk_ext [iblk, idx_whole t]

theorem in_l1b (k : Fin 1024) : (insAt m c t).l1b (ix2 0 k) = (arg m c main_arg10 : FVec Ideal S1x1024 .f32) (ix2 0 k) := by
  refine Eq.trans ?_ (host10 m c k)
  show iblk m c 10 t (ix2 0 k) = _
  blk_ext [iblk, idx_whole t]

theorem in_wup (n : Fin 11) (k : Fin 1024) (l : Fin 512) :
    (insAt m c t).wup (ix3 n k l) = (arg m c main_arg11 : FVec Ideal S1x1024x5632 .f32) (ix3 0 k (col n l)) := by
  refine Eq.trans ?_ (host11 m c n k l)
  show iblk m c 11 t (ix3 n k l) = _
  blk_ext [iblk, idx_whole t]

theorem in_cw (n : Fin 11) (q : Fin 8) (hq : q.val < 3) (l : Fin 512) :
    (insAt m c t).cw (ix3 n q l) = (arg m c main_arg12 : FVec Ideal S1x3x5632 .f32) (ix3 0 ⟨q.val, hq⟩ (col n l)) := by
  refine Eq.trans ?_ (host12 m c n q hq l)
  show iblk m c 12 t (ix3 n q l) = _
  blk_ext [iblk, idx_whole t]

theorem in_cb (n : Fin 11) (q : Fin 8) (hq : q.val = 3) (l : Fin 512) :
    (insAt m c t).cw (ix3 n q l) = (arg m c main_arg13 : FVec Ideal S1x5632 .f32) (ix2 0 (col n l)) := by
  refine Eq.trans ?_ (host12_bias m c n q hq l)
  show iblk m c 12 t (ix3 n q l) = _
  blk_ext [iblk, idx_whole t]

theorem in_wd (k : Fin 2816) (l : Fin 1024) : (insAt m c t).wd (ix2 k l) = (arg m c main_arg14 : FVec Ideal S1x2816x1024 .f32) (ix3 0 k l) := by
  refine Eq.trans ?_ (host13 m c k l)
  show iblk m c 13 t (ix2 k l) = _
  blk_ext [iblk, idx_whole t]

theorem in_wpg (k : Fin 1024) (l : Fin 1024) : (insAt m c t).wpg (ix2 k l) = (arg m c main_arg15 : FVec Ideal S1x1024x1024 .f32) (ix3 0 k l) := by
  refine Eq.trans ?_ (host14 m c k l)
  show iblk m c 14 t (ix2 k l) = _
  blk_ext [iblk, idx_whole t]

theorem in_bpg (k : Fin 1024) : (insAt m c t).bpg (ix2 0 k) = (arg m c main_arg16 : FVec Ideal S1x1024 .f32) (ix2 0 k) := by
  refine Eq.trans ?_ (host15 m c k)
  show iblk m c 15 t (ix2 0 k) = _
  blk_ext [iblk, idx_whole t]

theorem in_wple (k : Fin 256) (l : Fin 1024) : (insAt m c t).wple (ix2 k l) = (arg m c main_arg17 : FVec Ideal S1x256x1024 .f32) (ix3 0 k l) := by
  refine Eq.trans ?_ (host16 m c k l)
  show iblk m c 16 t (ix2 k l) = _
  blk_ext [iblk, idx_whole t]

theorem in_l2g (k : Fin 1024) : (insAt m c t).l2g (ix2 0 k) = (arg m c main_arg18 : FVec Ideal S1x1024 .f32) (ix2 0 k) := by
  refine Eq.trans ?_ (host17 m c k)
  show iblk m c 17 t (ix2 0 k) = _
  blk_ext [iblk, idx_whole t]

theorem in_l2b (k : Fin 1024) : (insAt m c t).l2b (ix2 0 k) = (arg m c main_arg19 : FVec Ideal S1x1024 .f32) (ix2 0 k) := by
  refine Eq.trans ?_ (host18 m c k)
  show iblk m c 18 t (ix2 0 k) = _
  blk_ext [iblk, idx_whole t]

end Cert.Proof.Post

end
-- ==== Proof.PostRow.lean ====
/- The post call over the extended reals: what it computes of one row. -/
module

public import Idealize.ShloMosaic.Lib.Pointwise

@[expose] public section

noncomputable section

namespace Cert.Proof.Post.Row

open Idealize.ShloMosaic

/-- Layer normalisation of the row `v`, scaled by `g` and shifted by `b`. -/
def ln (v g b : Fin 1024 → EReal) (j : Fin 1024) : EReal :=
  (v j - Ideal.div (∑ k, v k) (Ideal.ofBits .f32 0x44800000#32))
    * Ideal.rsqrt (Ideal.div (∑ k, (v k - Ideal.div (∑ l, v l) (Ideal.ofBits .f32 0x44800000#32)) * (v k - Ideal.div (∑ l, v l) (Ideal.ofBits .f32 0x44800000#32)))
        (Ideal.ofBits .f32 0x44800000#32) + Ideal.ofBits .f32 0x3727C5AC#32)
    * g j + b j

/-- The branches merged: the gated attention's projection, and the convolution branch. -/
def merged (att : Fin 512 → EReal) (sig mconv : Fin 1024 → EReal) (wbra : Fin 512 → Fin 1024 → EReal) (j : Fin 1024) : EReal :=
  sig j * (∑ k, att k * wbra k j) + mconv j

/-- The state after the mixing branches and the first normalisation, of the normalised input `h` and the merged row `g`. -/
def mix (h g : Fin 1024 → EReal) (wo : Fin 1024 → Fin 1024 → EReal) (l1g l1b : Fin 1024 → EReal) : Fin 1024 → EReal :=
  ln (fun j => Ideal.ofBits .f32 0x3F9837F0#32 * h j + ∑ k, g k * wo k j) l1g l1b

/-- The gated embedding of the layer. -/
def ple (h : Fin 1024 → EReal) (p : Fin 256 → EReal) (wpg : Fin 1024 → Fin 1024 → EReal) (bpg : Fin 1024 → EReal) (wple : Fin 256 → Fin 1024 → EReal)
    (j : Fin 1024) : EReal :=
  Ideal.logistic ((∑ k, h k * wpg k j) + bpg j) * ∑ k, p k * wple k j

/-- Three taps and a bias. -/
def conv (a b c w0 w1 w2 w3 : EReal) : EReal := w0 * a + w1 * b + w2 * c + w3

/-- The gated product of the two halves of the convolution. -/
def glu (g u : EReal) : EReal := g * Ideal.logistic g * u

/-- The row that is returned, of the state `h`, the down-projection `f` and the gated embedding `e`. -/
def out (h f e l2g l2b : Fin 1024 → EReal) : Fin 1024 → EReal :=
  ln (fun j => Ideal.ofBits .f32 0x3F9837F0#32 * h j + f j + e j) l2g l2b

/-- The sum over 2816 positions is the sum over 11 chunks of 256. -/
theorem sum_chunks (f : ℕ → EReal) : ∑ k : Fin 2816, f k.val = ∑ n ∈ Finset.range 11, ∑ k : Fin 256, f (256 * n + k.val) := by
  have h : ∀ N : ℕ, ∑ k ∈ Finset.range (256 * N), f k = ∑ n ∈ Finset.range N, ∑ k ∈ Finset.range 256, f (256 * n + k) := by
    intro N
    induction N with
    | zero => simp
    | succ N ih =>
      rw [Nat.mul_succ, Finset.sum_range_add _ (256 * N) 256, ih]
      exact (Finset.sum_range_succ _ N).symm
  rw [Fin.sum_univ_eq_sum_range, show (2816 : ℕ) = 256 * 11 from rfl, h]
  exact Finset.sum_congr rfl fun n _ => (Fin.sum_univ_eq_sum_range (fun k => f (256 * n + k)) 256).symm

/-- The arrays that the call is given, as functions of their indices. -/
structure Net where
  x : Fin 8 → Fin 4096 → Fin 1024 → EReal
  att : Fin 8 → Fin 4096 → Fin 512 → EReal
  sig : Fin 8 → Fin 4096 → Fin 1024 → EReal
  mconv : Fin 8 → Fin 4096 → Fin 1024 → EReal
  p : Fin 8 → Fin 4096 → Fin 256 → EReal
  lng : Fin 1024 → EReal
  lnb : Fin 1024 → EReal
  wbra : Fin 512 → Fin 1024 → EReal
  wo : Fin 1024 → Fin 1024 → EReal
  l1g : Fin 1024 → EReal
  l1b : Fin 1024 → EReal
  wup : Fin 1024 → Fin 5632 → EReal
  cw : Fin 3 → Fin 5632 → EReal
  cb : Fin 5632 → EReal
  wd : Fin 2816 → Fin 1024 → EReal
  wpg : Fin 1024 → Fin 1024 → EReal
  bpg : Fin 1024 → EReal
  wple : Fin 256 → Fin 1024 → EReal
  l2g : Fin 1024 → EReal
  l2b : Fin 1024 → EReal

variable (N : Net) (b : Fin 8) (s : Fin 4096)

/-- The state after the mixing branches, at token `s` of sequence `b`. -/
def Net.h1 : Fin 1024 → EReal :=
  mix (ln (N.x b s) N.lng N.lnb) (merged (N.att b s) (N.sig b s) (N.mconv b s) N.wbra) N.wo N.l1g N.l1b

/-- The up-projection at token `s`. -/
def Net.up (c : Fin 5632) : EReal := ∑ k, N.h1 b s k * N.wup k c

/-- The up-projection `d` tokens earlier, and zero before the sequence starts. -/
def Net.tap (d : ℕ) (c : Fin 5632) : EReal := if s.val < d then 0 else N.up b ⟨s.val - d, by omega⟩ c

/-- The causal convolution of the up-projection. -/
def Net.cnv (c : Fin 5632) : EReal := conv (N.tap b s 2 c) (N.tap b s 1 c) (N.up b s c) (N.cw 0 c) (N.cw 1 c) (N.cw 2 c) (N.cb c)

/-- The gated activation. -/
def Net.act (l : Fin 2816) : EReal := glu (N.cnv b s ⟨l.val, by omega⟩) (N.cnv b s ⟨2816 + l.val, by omega⟩)

/-- The down-projection. -/
def Net.ffn (j : Fin 1024) : EReal := ∑ l, N.act b s l * N.wd l j

/-- The call's result at token `s`. -/
def Net.out : Fin 1024 → EReal := Row.out (N.h1 b s) (N.ffn b s) (ple (N.h1 b s) (N.p b s) N.wpg N.bpg N.wple) N.l2g N.l2b

end Cert.Proof.Post.Row

end
-- ==== Proof.PostRead.lean ====
/- The post call over the extended reals: the kernel's values read at an index. -/
module

public import proofs.«01_k».proof.Proof.PostTile
public import proofs.«01_k».proof.Proof.PostRow

@[expose] public section

set_option maxRecDepth 16384

noncomputable section

namespace Cert.Proof.Post

open Cert.KernelIdeal Cert.KernelIdeal.Gen
open Idealize.ShloMosaic

theorem pay13_apply (x : Vec Ideal S1x512x1024 .f32) (g b : Vec Ideal S1x1024 .f32) (r : Fin 512) (j : Fin 1024) :
    k0_pay13 x g b (ix2 r j) = Row.ln (fun k => x (ix3 0 r k)) (fun k => g (ix2 0 k)) (fun k => b (ix2 0 k)) j := by
  pointwise [k0_pay13, Row.ln]

theorem pay16_apply (h s : Vec Ideal S512x1024 .f32) (a : Vec Ideal S512x512 .bf16) (wbra : Vec Ideal S512x1024 .bf16) (mc : Vec Ideal S1x512x1024 .bf16)
    (wo : Vec Ideal S1024x1024 .bf16) (g b : Vec Ideal S1x1024 .f32) (r : Fin 512) (j : Fin 1024) :
    k0_pay16 h s a wbra mc wo g b (ix2 r j)
      = Row.mix (fun k => h (ix2 r k)) (Row.merged (fun k => a (ix2 r k)) (fun k => s (ix2 r k)) (fun k => mc (ix3 0 r k)) (fun k l => wbra (ix2 k l)))
          (fun k l => wo (ix2 k l)) (fun k => g (ix2 0 k)) (fun k => b (ix2 0 k)) j := by
  pointwise [k0_pay16, Row.mix, Row.merged, Row.ln]

theorem pay19_apply (h : Vec Ideal S512x1024 .bf16) (wpg : Vec Ideal S1024x1024 .bf16) (bpg : Vec Ideal S1x1024 .f32) (p : Vec Ideal S1x1x512x256 .f32)
    (wple : Vec Ideal S256x1024 .bf16) (r : Fin 512) (j : Fin 1024) :
    k0_pay19 h wpg bpg p wple (ix2 r j)
      = Row.ple (fun k => h (ix2 r k)) (fun k => p (ix4 0 0 r k)) (fun k l => wpg (ix2 k l)) (fun k => bpg (ix2 0 k)) (fun k l => wple (ix2 k l)) j := by
  pointwise [k0_pay19, Row.ple]

theorem pay20_apply (h : Vec Ideal S512x1024 .bf16) (w : Vec Ideal S1x1024x512 .bf16) (r : Fin 512) (j : Fin 512) :
    k0_pay20 h w (ix2 r j) = ∑ k : Fin 1024, h (ix2 r k) * w (ix3 0 k j) := by
  pointwise [k0_pay20]

theorem pay6_apply (w : Vec Ideal S1x8x512 .f32) (c a b : Vec Ideal S512x512 .f32) (r : Fin 512) (j : Fin 256) :
    k0_pay6 w c a b (ix2 r j)
      = Row.glu (Row.conv (a (ix2 r ⟨j.val, by omega⟩)) (b (ix2 r ⟨j.val, by omega⟩)) (c (ix2 r ⟨j.val, by omega⟩))
          (w (ix3 0 0 ⟨j.val, by omega⟩)) (w (ix3 0 1 ⟨j.val, by omega⟩)) (w (ix3 0 2 ⟨j.val, by omega⟩)) (w (ix3 0 3 ⟨j.val, by omega⟩)))
        (Row.conv (a (ix2 r ⟨256 + j.val, by omega⟩)) (b (ix2 r ⟨256 + j.val, by omega⟩)) (c (ix2 r ⟨256 + j.val, by omega⟩))
          (w (ix3 0 0 ⟨256 + j.val, by omega⟩)) (w (ix3 0 1 ⟨256 + j.val, by omega⟩)) (w (ix3 0 2 ⟨256 + j.val, by omega⟩)) (w (ix3 0 3 ⟨256 + j.val, by omega⟩))) := by
  pointwise [k0_pay6, Row.glu, Row.conv]

theorem pay2_apply (acc : Vec Ideal S512x1024 .f32) (a : Vec Ideal S512x512 .bf16) (w : Vec Ideal S512x1024 .bf16) (r : Fin 512) (j : Fin 1024) :
    k0_pay2 acc a w (ix2 r j) = acc (ix2 r j) + ∑ k : Fin 512, a (ix2 r k) * w (ix2 k j) := by
  pointwise [k0_pay2]

theorem pay25_apply (acc : Vec Ideal S512x1024 .f32) (a : Vec Ideal S512x512 .bf16) (w : Vec Ideal S512x1024 .bf16) (r : Fin 512) (j : Fin 1024) :
    k0_pay25 acc a w (ix2 r j) = acc (ix2 r j) + ∑ k : Fin 512, a (ix2 r k) * w (ix2 k j) := by
  pointwise [k0_pay25]

theorem pay5_apply (u : Vec Ideal S512x512 .f32) (r : Fin 8) (j : Fin 512) :
    k0_pay5 u (ix3 0 r j) = u (ix2 ⟨504 + r.val, by omega⟩ j) := by
  pointwise [k0_pay5]

theorem pay4_apply (u : Vec Ideal S1x8x512 .f32) (r : Fin 8) (j : Fin 512) : k0_pay4 u (ix2 r j) = u (ix3 0 r j) := by
  pointwise [k0_pay4]

theorem pay12_apply (a : Fin 11) (b : Fin 8) (c : Fin 512) : (k0_pay12 : FVec Ideal S11x8x512 .f32) (ix3 a b c) = 0 := by
  pointwise [k0_pay12]

theorem pay21_apply (a : Fin 512) (b : Fin 512) : (k0_pay21 : FVec Ideal S512x512 .bf16) (ix2 a b) = 0 := by
  pointwise [k0_pay21]

theorem pay23_apply (a : Fin 512) (b : Fin 1024) : (k0_pay23 k0_pay22 : FVec Ideal S512x1024 .f32) (ix2 a b) = 0 := by
  pointwise [k0_pay23, k0_pay22]

/-- The last part of the body: the last chunk's activation and its product, and the second normalisation. -/
theorem pay31_apply (h e f : Vec Ideal S512x1024 .f32) (w : Vec Ideal S1x8x512 .f32) (c a b : Vec Ideal S512x512 .f32) (wd : Vec Ideal S256x1024 .bf16)
    (l2g l2b : Vec Ideal S1x1024 .f32) (r : Fin 512) (j : Fin 1024) :
    k0_pay1 (k0_pay31 h e f (k0_pay28 w c a b) (k0_pay29 w) wd l2g) (k0_pay32 l2b) (ix3 0 r j)
      = Row.out (fun k => h (ix2 r k)) (fun k => f (ix2 r k) + ∑ l : Fin 256, k0_pay6 w c a b (ix2 r l) * wd (ix2 l k)) (fun k => e (ix2 r k))
          (fun k => l2g (ix2 0 k)) (fun k => l2b (ix2 0 k)) j := by
  pointwise [k0_pay1, k0_pay31, k0_pay32, k0_pay28, k0_pay29, k0_pay27, k0_pay6, Row.out, Row.ln]

end Cert.Proof.Post

end
-- ==== Proof.PostSum.lean ====
/- The post call over the extended reals: what a tile's feed-forward block sums to, chunk by chunk. -/
module

public import proofs.«01_k».proof.Proof.PostRead

@[expose] public section

set_option maxRecDepth 16384

noncomputable section

namespace Cert.Proof.Post

open Cert.KernelIdeal Cert.KernelIdeal.Gen
open Idealize.ShloMosaic

variable (H : Vec Ideal S512x1024 .bf16) (W : Vec Ideal S11x1024x512 .bf16) (K : Vec Ideal S11x8x512 .f32) (D : Vec Ideal S2816x1024 .bf16)
  (C : Vec Ideal S11x8x512 .f32)

/-- The up-projection of chunk `n` at row `r` and column `l`. -/
theorem up_apply (n : ℕ) (r l : Fin 512) : up H W n (ix2 r l) = ∑ k : Fin 1024, H (ix2 r k) * W (ix3 (Fin.ofNat 11 n) k l) :=
  pay20_apply H (slab W n) r l

/-- The up-projection of chunk `n`, `d` rows above row `r`: from the carried tails `C` where that row lies in the tile before. -/
def above (n d : ℕ) (hd : d < 8) (r l : Fin 512) : EReal :=
  if h : r.val < d then C (ix3 (Fin.ofNat 11 n) ⟨8 + r.val - d, by omega⟩ l) else up H W n (ix2 ⟨r.val - d, by omega⟩ l)

/-- Row `r` of the window that starts at row `8 - d` of the padded block. -/
theorem window_padded (n d : ℕ) (hd : d < 8) (o : ℕ) (ho : o + d = 8) (inb : ∀ a, (![o, 0] : Fin 2 → ℕ) a + S512x512.size a ≤ S520x512.size a) (r l : Fin 512) :
    VecWindow.window (padded H W C n) ![o, 0] S512x512.size inb (ix2 r l) = above H W C n d hd r l := by
  have hr := r.isLt
  have he : (Rect.unit (s := S520x512) ![o, 0] S512x512.size inb).emb (ix2 r l) = ix2 ⟨o + r.val, by omega⟩ l := by
    funext a
    refine Fin.ext ?_
    fin_cases a
    · show o + 1 * r.val = o + r.val
      omega
    · show 0 + 1 * l.val = l.val
      omega
  show padded H W C n _ = _
  rw [he]
  show glue _ _ _ = _
  unfold glue above
  by_cases h : r.val < d
  · rw [dif_pos (show (ix2 (⟨o + r.val, by omega⟩ : Fin 520) l 0).val < 8 by show o + r.val < 8; omega), dif_pos h]
    refine (pay4_apply (slab C n) ⟨o + r.val, by omega⟩ l).trans (congrArg (fun q => C (ix3 (Fin.ofNat 11 n) q l)) (Fin.ext ?_))
    show o + r.val = 8 + r.val - d
    omega
  · rw [dif_neg (show ¬ (ix2 (⟨o + r.val, by omega⟩ : Fin 520) l 0).val < 8 by show ¬ o + r.val < 8; omega), dif_neg h]
    refine congrArg (fun q => up H W n (ix2 q l)) (Fin.ext ?_)
    show o + r.val - 8 = r.val - d
    omega

/-- The convolution of chunk `n` at row `r` and column `l`. -/
def cnv (n : ℕ) (r l : Fin 512) : EReal :=
  Row.conv (above H W C n 2 (by omega) r l) (above H W C n 1 (by omega) r l) (up H W n (ix2 r l)) (K (ix3 (Fin.ofNat 11 n) 0 l)) (K (ix3 (Fin.ofNat 11 n) 1 l))
    (K (ix3 (Fin.ofNat 11 n) 2 l)) (K (ix3 (Fin.ofNat 11 n) 3 l))

/-- The activation of chunk `n` at row `r` and column `l`. -/
theorem actv_apply (n : ℕ) (r : Fin 512) (l : Fin 256) :
    actv H W K C n (ix2 r l) = Row.glu (cnv H W K C n r ⟨l.val, by omega⟩) (cnv H W K C n r ⟨256 + l.val, by omega⟩) := by
  refine (pay6_apply (slab K n) (up H W n) _ _ r l).trans ?_
  rw [window_padded H W C n 2 (by omega) 6 rfl, window_padded H W C n 2 (by omega) 6 rfl, window_padded H W C n 1 (by omega) 7 rfl,
    window_padded H W C n 1 (by omega) 7 rfl]
  rfl

/-- What chunk `n` adds to the down-projection at row `r` and column `j`. -/
def chunk (n : ℕ) (r : Fin 512) (j : Fin 1024) : EReal := ∑ l : Fin 256, actv H W K C n (ix2 r l) * D (ix2 (Fin.ofNat 2816 (256 * n + l.val)) j)

theorem sum_halves (f : Fin 512 → EReal) : ∑ k, f k = ∑ l : Fin 256, f ⟨l.val, by omega⟩ + ∑ l : Fin 256, f ⟨256 + l.val, by omega⟩ :=
  Fin.sum_univ_add (a := 256) (b := 256) f

/-- A pair of activations times its rows of the weights: two chunks. -/
theorem acts_sum (k : ℕ) (r : Fin 512) (j : Fin 1024) :
    ∑ l : Fin 512, acts H W K C (k + 1) (ix2 r l) * wdRows D (512 * k) (ix2 l j) = chunk H W K D C (2 * k) r j + chunk H W K D C (2 * k + 1) r j := by
  rw [sum_halves]
  refine congrArg₂ (· + ·) (Finset.sum_congr rfl fun l _ => congrArg₂ (· * ·) ?_ ?_) (Finset.sum_congr rfl fun l _ => congrArg₂ (· * ·) ?_ ?_)
  · exact dif_pos l.isLt
  · refine congrArg (fun q => D (ix2 q j)) (congrArg (Fin.ofNat 2816) ?_)
    show 512 * k + l.val = 256 * (2 * k) + l.val
    omega
  · refine (dif_neg (show ¬ 256 + l.val < 256 by omega)).trans (congrArg (fun q => actv H W K C (2 * k + 1) (ix2 r q)) (Fin.ext ?_))
    show 256 + l.val - 256 = l.val
    omega
  · refine congrArg (fun q => D (ix2 q j)) (congrArg (Fin.ofNat 2816) ?_)
    show 512 * k + (256 + l.val) = 256 * (2 * k + 1) + l.val
    omega

/-- The accumulator that trip `k + 1` finds holds the first `2 k` chunks. -/
theorem accs_apply (k : ℕ) (r : Fin 512) (j : Fin 1024) : accs H W K D C (k + 1) (ix2 r j) = ∑ n ∈ Finset.range (2 * k), chunk H W K D C n r j := by
  induction k with
  | zero =>
    refine (pay2_apply _ _ _ r j).trans ?_
    show (k0_pay23 k0_pay22 : FVec Ideal S512x1024 .f32) (ix2 r j) + _ = _
    rw [pay23_apply, zero_add]
    refine Finset.sum_eq_zero fun l _ => ?_
    show (k0_pay21 : FVec Ideal S512x512 .bf16) (ix2 r l) * _ = 0
    rw [pay21_apply, zero_mul]
  | succ k ih =>
    refine (pay2_apply _ _ _ r j).trans ?_
    rw [ih, show k + 1 - 1 = k from rfl, acts_sum, ← add_assoc, show 2 * (k + 1) = 2 * k + 1 + 1 from by omega, Finset.sum_range_succ, Finset.sum_range_succ]

/-- The sum of the eleven chunks, its last three apart. -/
theorem sum_last (f : ℕ → EReal) : ∑ n ∈ Finset.range 11, f n = ∑ n ∈ Finset.range (2 * 4), f n + f (2 * 4) + f (2 * 4 + 1) + f 10 :=
  (Finset.sum_range_succ f 10).trans (congrArg (· + f 10) ((Finset.sum_range_succ f 9).trans (congrArg (· + f 9) (Finset.sum_range_succ f 8))))

/-- The tile's output: the second normalisation over the eleven chunks' sum. -/
theorem out_apply (I : Ins Ideal) (r : Fin 512) (j : Fin 1024) :
    I.out C (ix3 0 r j) = Row.out (fun k => I.h1 (ix2 r k)) (fun k => ∑ n ∈ Finset.range 11, chunk I.h1b I.wup I.cw I.wd C n r k) (fun k => I.ple (ix2 r k))
      (fun k => I.l2g (ix2 0 k)) (fun k => I.l2b (ix2 0 k)) j := by
  refine (pay31_apply _ _ _ _ _ _ _ _ _ _ r j).trans ?_
  refine congrArg (fun f => Row.out _ f _ _ _ j) (funext fun k => ?_)
  rw [sum_last]
  refine congrArg₂ (· + ·) ?_ (Finset.sum_congr rfl fun l _ => congrArg₂ (· * ·) rfl ?_)
  · refine (pay25_apply _ _ _ r k).trans ?_
    rw [accs_apply I.h1b I.wup I.cw I.wd C 4, show (2048 : ℕ) = 512 * 4 from rfl, acts_sum I.h1b I.wup I.cw I.wd C 4, ← add_assoc]
  refine congrArg I.wd (funext fun a => Fin.ext ?_)
  have hl := l.isLt
  fin_cases a
  · show 2560 + 1 * l.val = (256 * 10 + l.val) % 2816
    omega
  · show 0 + 1 * k.val = k.val
    omega

end Cert.Proof.Post

end
-- ==== Proof.PostRef.lean ====
/- The reference of the post call, read at an index. -/
module

public import proofs.«01_k».proof.Proof.PostRow
public import proofs.«01_k».proof.Proof.Gen.ReferenceIdeal.Read
public import Idealize.ShloMosaic.Lib.KernelVsHost
public import Idealize.ShloMosaic.Lib.IdealHost

@[expose] public section

set_option maxRecDepth 16384

noncomputable section

namespace Cert.Proof.Post

open Cert.ReferenceIdeal Cert.ReferenceIdeal.Gen Cert.ReferenceIdeal.Read
open Idealize.ShloMosaic

section
variable (x0 : FVec Ideal S8x4096x1024 .f32) (x1 : FVec Ideal S8x4096x512 .bf16) (x2 x3 : FVec Ideal S8x4096x1024 .bf16) (x4 : FVec Ideal S1x8x4096x256 .f32)
  (x5 x6 : FVec Ideal S1024 .f32) (x7 : FVec Ideal S1x512x1024 .f32) (x8 : FVec Ideal S1x1024x1024 .f32) (x9 x10 : FVec Ideal S1x1024 .f32)
  (x11 : FVec Ideal S1x1024x5632 .f32) (x12 : FVec Ideal S1x3x5632 .f32) (x13 : FVec Ideal S1x5632 .f32) (x14 : FVec Ideal S1x2816x1024 .f32)
  (x15 : FVec Ideal S1x1024x1024 .f32) (x16 : FVec Ideal S1x1024 .f32) (x17 : FVec Ideal S1x256x1024 .f32) (x18 x19 : FVec Ideal S1x1024 .f32)
  (b : Fin 8) (s : Fin 4096)

theorem ref_ln (j : Fin 1024) : val_main_v26 (F := Ideal) x0 x5 x6 (ix3 b s j) = Row.ln (fun k => x0 (ix3 b s k)) (fun k => x5 (ix1 k)) (fun k => x6 (ix1 k)) j := by
  pointwise [val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5, val_main_v4,
    val_main_v3, val_main_cst, val_main_cst_0, val_main_cst_1, val_main_cst_2, val_main_cst_3, Row.ln]

theorem ref_merged (j : Fin 1024) : val_main_v30 (F := Ideal) x1 x2 x3 x7 (ix3 b s j)
    = Row.merged (fun k => x1 (ix3 b s k)) (fun k => x2 (ix3 b s k)) (fun k => x3 (ix3 b s k)) (fun k l => x7 (ix3 0 k l)) j := by
  pointwise [val_main_v30, val_main_v29, val_main_v28, val_main_v27, val_main_v2, val_main_v1, val_main_v0, Row.merged]

/-- The arrays as functions of their indices. -/
def net : Row.Net where
  x b s k := x0 (ix3 b s k)
  att b s k := x1 (ix3 b s k)
  sig b s k := x2 (ix3 b s k)
  mconv b s k := x3 (ix3 b s k)
  p b s k := x4 (ix4 0 b s k)
  lng k := x5 (ix1 k)
  lnb k := x6 (ix1 k)
  wbra k l := x7 (ix3 0 k l)
  wo k l := x8 (ix3 0 k l)
  l1g k := x9 (ix2 0 k)
  l1b k := x10 (ix2 0 k)
  wup k l := x11 (ix3 0 k l)
  cw k l := x12 (ix3 0 k l)
  cb k := x13 (ix2 0 k)
  wd k l := x14 (ix3 0 k l)
  wpg k l := x15 (ix3 0 k l)
  bpg k := x16 (ix2 0 k)
  wple k l := x17 (ix3 0 k l)
  l2g k := x18 (ix2 0 k)
  l2b k := x19 (ix2 0 k)

theorem ref_h1 (j : Fin 1024) : val_main_v61 (F := Ideal) x0 x1 x2 x3 x5 x6 x7 x8 x9 x10 (ix3 b s j) = (net x0 x1 x2 x3 x4 x5 x6 x7 x8 x9 x10 x11 x12 x13 x14 x15 x16 x17 x18 x19).h1 b s j := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_4, val_main_cst_5, val_main_cst_6, val_main_cst_7,
    val_main_cst_8, val_main_cst_9]
  simp only [ref_ln, ref_merged]
  rfl

theorem ref_up (c : Fin 5632) : val_main_v63 (F := Ideal) x0 x1 x2 x3 x5 x6 x7 x8 x9 x10 x11 (ix3 b s c) = (net x0 x1 x2 x3 x4 x5 x6 x7 x8 x9 x10 x11 x12 x13 x14 x15 x16 x17 x18 x19).up b s c := by
  pointwise [val_main_v63, val_main_v62]
  simp only [ref_h1 x0 x1 x2 x3 x4 x5 x6 x7 x8 x9 x10 x11 x12 x13 x14 x15 x16 x17 x18 x19]
  rfl

/-- A row of the padded up-projection: the row `d` tokens earlier, zeros in front. -/
theorem pad_tap (N : Row.Net) (c : Fin 5632) (d q : ℕ) (hq : q + d = s.val + 2) (hd : d ≤ 2) :
    (if h : 2 ≤ q ∧ q - 2 < 4096 then N.up b ⟨q - 2, h.2⟩ c else (FloatOps.sitofp FTy.f32 0#32 : Ideal .f32)) = N.tap b s d c := by
  have hs := s.isLt
  unfold Row.Net.tap
  by_cases h : s.val < d
  · rw [if_pos h, dif_neg (by omega)]
    exact sitofp_zero (φ := .f32)
  · rw [if_neg h, dif_pos ⟨by omega, by omega⟩]
    refine congrArg (fun k => N.up b k c) (Fin.ext ?_)
    show q - 2 = s.val - d
    omega

theorem ref_cnv (c : Fin 5632) : val_main_v89 (F := Ideal) x0 x1 x2 x3 x5 x6 x7 x8 x9 x10 x11 x12 x13 (ix3 b s c) = (net x0 x1 x2 x3 x4 x5 x6 x7 x8 x9 x10 x11 x12 x13 x14 x15 x16 x17 x18 x19).cnv b s c := by
  pointwise [val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_c, val_main_call0_v0]
  simp only [ref_up x0 x1 x2 x3 x4 x5 x6 x7 x8 x9 x10 x11 x12 x13 x14 x15 x16 x17 x18 x19]
  rw [mul_comm _ (x12 (ix3 0 0 c)), mul_comm _ (x12 (ix3 0 1 c)), mul_comm _ (x12 (ix3 0 2 c))]
  refine congrArg (· + _) (congrArg₂ (· + ·) (congrArg₂ (· + ·) (congrArg (_ * ·) ?_) (congrArg (_ * ·) ?_)) rfl)
  · exact pad_tap b s (net x0 x1 x2 x3 x4 x5 x6 x7 x8 x9 x10 x11 x12 x13 x14 x15 x16 x17 x18 x19) c 2 s.val rfl (by omega)
  · exact pad_tap b s (net x0 x1 x2 x3 x4 x5 x6 x7 x8 x9 x10 x11 x12 x13 x14 x15 x16 x17 x18 x19) c 1 (1 + s.val) (by omega) (by omega)

theorem ref_act (l : Fin 2816) : val_main_v93 (F := Ideal) x0 x1 x2 x3 x5 x6 x7 x8 x9 x10 x11 x12 x13 (ix3 b s l) = (net x0 x1 x2 x3 x4 x5 x6 x7 x8 x9 x10 x11 x12 x13 x14 x15 x16 x17 x18 x19).act b s l := by
  pointwise [val_main_v93, val_main_v92, val_main_v91, val_main_v90, val_main_call1_v0, val_main_call1_v1, val_main_call1_v2, val_main_call1_v3, val_main_call1_v4,
    val_main_call1_v5, val_main_call1_cst, val_main_call1_cst_0, Ideal.ofBits_one_f32]
  simp only [ref_cnv x0 x1 x2 x3 x4 x5 x6 x7 x8 x9 x10 x11 x12 x13 x14 x15 x16 x17 x18 x19]
  rfl

theorem ref_ffn (j : Fin 1024) : val_main_v95 (F := Ideal) x0 x1 x2 x3 x5 x6 x7 x8 x9 x10 x11 x12 x13 x14 (ix3 b s j) = (net x0 x1 x2 x3 x4 x5 x6 x7 x8 x9 x10 x11 x12 x13 x14 x15 x16 x17 x18 x19).ffn b s j := by
  pointwise [val_main_v95, val_main_v94]
  simp only [ref_act x0 x1 x2 x3 x4 x5 x6 x7 x8 x9 x10 x11 x12 x13 x14 x15 x16 x17 x18 x19]
  rfl

theorem ref_ple (j : Fin 1024) : val_main_v111 (F := Ideal) x0 x1 x2 x3 x4 x5 x6 x7 x8 x9 x10 x15 x16 x17 (ix3 b s j)
    = Row.ple ((net x0 x1 x2 x3 x4 x5 x6 x7 x8 x9 x10 x11 x12 x13 x14 x15 x16 x17 x18 x19).h1 b s) ((net x0 x1 x2 x3 x4 x5 x6 x7 x8 x9 x10 x11 x12 x13 x14 x15 x16 x17 x18 x19).p b s) (net x0 x1 x2 x3 x4 x5 x6 x7 x8 x9 x10 x11 x12 x13 x14 x15 x16 x17 x18 x19).wpg (net x0 x1 x2 x3 x4 x5 x6 x7 x8 x9 x10 x11 x12 x13 x14 x15 x16 x17 x18 x19).bpg (net x0 x1 x2 x3 x4 x5 x6 x7 x8 x9 x10 x11 x12 x13 x14 x15 x16 x17 x18 x19).wple j := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_cst_10, val_main_cst_11, Ideal.ofBits_one_f32]
  simp only [ref_h1 x0 x1 x2 x3 x4 x5 x6 x7 x8 x9 x10 x11 x12 x13 x14 x15 x16 x17 x18 x19]
  rfl

/-- The reference's result at an index. -/
theorem ref_out (j : Fin 1024) : val_main_v141 (F := Ideal) x0 x1 x2 x3 x4 x5 x6 x7 x8 x9 x10 x11 x12 x13 x14 x15 x16 x17 x18 x19 (ix3 b s j) = (net x0 x1 x2 x3 x4 x5 x6 x7 x8 x9 x10 x11 x12 x13 x14 x15 x16 x17 x18 x19).out b s j := by
  pointwise [val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_cst_12, val_main_cst_13, val_main_cst_14,
    val_main_cst_15, val_main_cst_16, val_main_cst_17]
  simp only [ref_h1 x0 x1 x2 x3 x4 x5 x6 x7 x8 x9 x10 x11 x12 x13 x14 x15 x16 x17 x18 x19, ref_ffn x0 x1 x2 x3 x4 x5 x6 x7 x8 x9 x10 x11 x12 x13 x14 x15 x16 x17 x18 x19, ref_ple x0 x1 x2 x3 x4 x5 x6 x7 x8 x9 x10 x11 x12 x13 x14 x15 x16 x17 x18 x19]
  rfl

end

end Cert.Proof.Post

end
-- ==== Proof.PostValue.lean ====
/- The post call over the extended reals: what each tile computes is the layer at the tile's tokens. -/
module

public import proofs.«01_k».proof.Proof.PostBlocks
public import proofs.«01_k».proof.Proof.PostSum
public import proofs.«01_k».proof.Proof.PostRef

@[expose] public section

set_option maxRecDepth 16384

noncomputable section

namespace Cert.Proof.Post

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- The launch's arguments as functions of their indices. -/
def netAt : Row.Net :=
  net (arg m c main_arg0) (arg m c main_arg1) (arg m c main_arg2) (arg m c main_arg3) (arg m c main_arg4) (arg m c main_arg5) (arg m c main_arg6)
    (arg m c main_arg7) (arg m c main_arg8) (arg m c main_arg9) (arg m c main_arg10) (arg m c main_arg11) (arg m c main_arg12) (arg m c main_arg13)
    (arg m c main_arg14) (arg m c main_arg15) (arg m c main_arg16) (arg m c main_arg17) (arg m c main_arg18) (arg m c main_arg19)

theorem pay14_apply (x : Vec Ideal S1x512x1024 .bf16) (r : Fin 512) (j : Fin 1024) : k0_pay14 x (ix2 r j) = x (ix3 0 r j) := by
  pointwise [k0_pay14]

theorem pay15_apply (x : Vec Ideal S1x512x512 .bf16) (r : Fin 512) (j : Fin 512) : k0_pay15 x (ix2 r j) = x (ix3 0 r j) := by
  pointwise [k0_pay15]

/-- The rounding that the feed-forward block reads its rows through changes nothing here. -/
theorem h1b_apply (I : Ins Ideal) (r : Fin 512) (j : Fin 1024) : I.h1b (ix2 r j) = I.h1 (ix2 r j) := by
  unfold Ins.h1b Ins.h1
  pointwise [k0_pay18, k0_pay17, k0_pay16]

/-- The tile's state after the mixing branches. -/
theorem h1_eq (r : Fin 512) (j : Fin 1024) : (insAt m c t).h1 (ix2 r j) = (netAt m c).h1 (sq t) (tok t r) j := by
  refine (pay16_apply _ _ _ _ _ _ _ _ r j).trans ?_
  simp only [pay13_apply, pay14_apply, pay15_apply, in_x, in_att, in_sig, in_mconv, in_lng, in_lnb, in_wbra, in_wo, in_l1g, in_l1b]
  rfl

/-- The tile's gated embedding. -/
theorem ple_eq (r : Fin 512) (j : Fin 1024) : (insAt m c t).ple (ix2 r j)
    = Row.ple ((netAt m c).h1 (sq t) (tok t r)) ((netAt m c).p (sq t) (tok t r)) (netAt m c).wpg (netAt m c).bpg (netAt m c).wple j := by
  refine (pay19_apply _ _ _ _ _ r j).trans ?_
  simp only [h1b_apply, h1_eq, in_p, in_wpg, in_bpg, in_wple]
  rfl

theorem ofNat_lt (n : ℕ) (hn : n < 11) : Fin.ofNat 11 n = ⟨n, hn⟩ := Fin.ext (Nat.mod_eq_of_lt hn)

/-- The tile's up-projection, chunk by chunk. -/
theorem up_eq (n : ℕ) (hn : n < 11) (r l : Fin 512) :
    up (insAt m c t).h1b (insAt m c t).wup n (ix2 r l) = (netAt m c).up (sq t) (tok t r) (col ⟨n, hn⟩ l) := by
  refine (up_apply _ _ n r l).trans ?_
  simp only [h1b_apply, h1_eq, ofNat_lt n hn, in_wup]
  rfl

/-- A tile leaves the last eight rows of its up-projection. -/
theorem carry_apply (I : Ins Ideal) (C : Vec Ideal S11x8x512 .f32) (n : Fin 11) (q : Fin 8) (l : Fin 512) :
    I.carry C (ix3 n q l) = up I.h1b I.wup n.val (ix2 ⟨504 + q.val, by omega⟩ l) :=
  (if_pos n.isLt).trans (pay5_apply _ q l)

/-- The rows above a tile are those of the tokens before it, zeros before the sequence starts. -/
theorem above_eq (n : ℕ) (hn : n < 11) (d : ℕ) (hd : d < 8) (r l : Fin 512) :
    above (insAt m c t).h1b (insAt m c t).wup (startAt m c t) n d hd r l = (netAt m c).tap (sq t) (tok t r) d (col ⟨n, hn⟩ l) := by
  have ht : t.val < 64 := Nat.lt_of_lt_of_eq t.isLt N_0
  have hr := r.isLt
  have hk : (tok t r).val = t.val % 8 * 512 + r.val := rfl
  unfold above Row.Net.tap
  by_cases h : r.val < d
  · rw [dif_pos h, ofNat_lt n hn]
    by_cases h0 : t.val % 8 = 0
    · rw [startAt_first m c t h0, pay12_apply, if_pos (show (tok t r).val < d by omega)]
    · rw [startAt_next m c t h0, if_neg (show ¬ (tok t r).val < d by omega)]
      refine (congrFun (leftAt_eq m c ⟨t.val - 1, by omega⟩) _).trans ((carry_apply _ _ _ _ _).trans ((up_eq m c _ n hn _ l).trans ?_))
      refine congrArg₂ (fun b s => (netAt m c).up b s (col ⟨n, hn⟩ l)) (Fin.ext ?_) (Fin.ext ?_)
      · show (t.val - 1) / 8 = t.val / 8
        omega
      · show (t.val - 1) % 8 * 512 + (504 + (8 + r.val - d)) = t.val % 8 * 512 + r.val - d
        omega
  · rw [dif_neg h, if_neg (show ¬ (tok t r).val < d by omega), up_eq m c t n hn]
    refine congrArg (fun s => (netAt m c).up (sq t) s (col ⟨n, hn⟩ l)) (Fin.ext ?_)
    show t.val % 8 * 512 + (r.val - d) = t.val % 8 * 512 + r.val - d
    omega

/-- The tile's convolution, chunk by chunk. -/
theorem cnv_eq (n : ℕ) (hn : n < 11) (r l : Fin 512) :
    cnv (insAt m c t).h1b (insAt m c t).wup (insAt m c t).cw (startAt m c t) n r l = (netAt m c).cnv (sq t) (tok t r) (col ⟨n, hn⟩ l) := by
  unfold cnv
  rw [above_eq m c t n hn, above_eq m c t n hn, up_eq m c t n hn, ofNat_lt n hn, in_cw m c t ⟨n, hn⟩ 0 (by decide), in_cw m c t ⟨n, hn⟩ 1 (by decide),
    in_cw m c t ⟨n, hn⟩ 2 (by decide), in_cb m c t ⟨n, hn⟩ 3 (by decide)]
  rfl

/-- The channel `256 n + l` of the activations. -/
def chan (n : ℕ) (hn : n < 11) (l : Fin 256) : Fin 2816 := ⟨256 * n + l.val, by omega⟩

/-- The tile's activations, chunk by chunk. -/
theorem actv_eq (n : ℕ) (hn : n < 11) (r : Fin 512) (l : Fin 256) :
    actv (insAt m c t).h1b (insAt m c t).wup (insAt m c t).cw (startAt m c t) n (ix2 r l) = (netAt m c).act (sq t) (tok t r) (chan n hn l) := by
  have hl := l.isLt
  rw [actv_apply, cnv_eq m c t n hn, cnv_eq m c t n hn]
  unfold Row.Net.act
  refine congrArg₂ (fun p q => Row.glu ((netAt m c).cnv (sq t) (tok t r) p) ((netAt m c).cnv (sq t) (tok t r) q)) ?_ ?_
  · refine (dif_pos hl).trans (Fin.ext ?_)
    show n * 256 + l.val = 256 * n + l.val
    omega
  · refine (dif_neg (show ¬ 256 + l.val < 256 by omega)).trans (Fin.ext ?_)
    show 2816 + (n * 256 + (256 + l.val - 256)) = 2816 + (256 * n + l.val)
    omega

/-- The tile's down-projection. -/
theorem ffn_eq (r : Fin 512) (j : Fin 1024) :
    ∑ n ∈ Finset.range 11, chunk (insAt m c t).h1b (insAt m c t).wup (insAt m c t).cw (insAt m c t).wd (startAt m c t) n r j
      = (netAt m c).ffn (sq t) (tok t r) j := by
  have hf : (netAt m c).ffn (sq t) (tok t r) j
      = ∑ l : Fin 2816, (fun i : ℕ => (netAt m c).act (sq t) (tok t r) (Fin.ofNat 2816 i) * (netAt m c).wd (Fin.ofNat 2816 i) j) l.val :=
    Finset.sum_congr rfl fun l _ => congrArg (fun i => (netAt m c).act (sq t) (tok t r) i * (netAt m c).wd i j) (Fin.ext (Nat.mod_eq_of_lt l.isLt).symm)
  refine Eq.trans ?_ (hf.trans (Row.sum_chunks fun i => (netAt m c).act (sq t) (tok t r) (Fin.ofNat 2816 i) * (netAt m c).wd (Fin.ofNat 2816 i) j)).symm
  refine Finset.sum_congr rfl fun n hn => Finset.sum_congr rfl fun l _ => congrArg₂ (· * ·) ?_ (in_wd m c t _ j)
  have hn := Finset.mem_range.mp hn
  rw [actv_eq m c t n hn]
  refine congrArg ((netAt m c).act (sq t) (tok t r)) (Fin.ext ?_)
  show 256 * n + l.val = (256 * n + l.val) % 2816
  omega

/-- What the tile writes is the layer at the tile's tokens. -/
theorem tile_eq (r : Fin 512) (j : Fin 1024) : (insAt m c t).out (startAt m c t) (ix3 0 r j) = (netAt m c).out (sq t) (tok t r) j := by
  refine (out_apply _ _ r j).trans ?_
  simp only [h1_eq, ple_eq, ffn_eq, in_l2g, in_l2b]
  rfl

/-- The layer at every token. -/
def layer : Buf (Elt Ideal) ((c : Thread nD τ).loc main_v41) := fun i : S8x4096x1024.Idx => (netAt m c).out (i 0) (i 1) (i 2)

end Cert.Proof.Post

end
-- ==== Proof.PostClaim.lean ====
/- The post call over the extended reals: the array that its launch leaves is the reference's. -/
module

public import proofs.«01_k».proof.Proof.PostFrame
public import proofs.«01_k».proof.Proof.PostValue

@[expose] public section

set_option maxRecDepth 16384

noncomputable section

namespace Cert.Proof.Post

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-- What the reference computes of the launch's arguments is the layer. -/
theorem ref_layer : Cert.ReferenceIdeal.Read.val_main_v141 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) = layer m c := by
  refine funext fun i => ?_
  have hi : i = ix3 (i 0) (i 1) (i 2) := funext fun a => by fin_cases a <;> rfl
  rw [hi]
  exact ref_out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (i 0) (i 1) (i 2)

/-- The same of arrays that equal the launch's arguments. -/
theorem ref_layer_of (x0 : FVec Ideal S8x4096x1024 .f32) (x1 : FVec Ideal S8x4096x512 .bf16) (x2 x3 : FVec Ideal S8x4096x1024 .bf16) (x4 : FVec Ideal S1x8x4096x256 .f32)
    (x5 x6 : FVec Ideal S1024 .f32) (x7 : FVec Ideal S1x512x1024 .f32) (x8 : FVec Ideal S1x1024x1024 .f32) (x9 x10 : FVec Ideal S1x1024 .f32)
    (x11 : FVec Ideal S1x1024x5632 .f32) (x12 : FVec Ideal S1x3x5632 .f32) (x13 : FVec Ideal S1x5632 .f32) (x14 : FVec Ideal S1x2816x1024 .f32)
    (x15 : FVec Ideal S1x1024x1024 .f32) (x16 : FVec Ideal S1x1024 .f32) (x17 : FVec Ideal S1x256x1024 .f32) (x18 x19 : FVec Ideal S1x1024 .f32)
    (h : x0 = arg m c main_arg0
      ∧ x1 = arg m c main_arg1
      ∧ x2 = arg m c main_arg2
      ∧ x3 = arg m c main_arg3
      ∧ x4 = arg m c main_arg4
      ∧ x5 = arg m c main_arg5
      ∧ x6 = arg m c main_arg6
      ∧ x7 = arg m c main_arg7
      ∧ x8 = arg m c main_arg8
      ∧ x9 = arg m c main_arg9
      ∧ x10 = arg m c main_arg10
      ∧ x11 = arg m c main_arg11
      ∧ x12 = arg m c main_arg12
      ∧ x13 = arg m c main_arg13
      ∧ x14 = arg m c main_arg14
      ∧ x15 = arg m c main_arg15
      ∧ x16 = arg m c main_arg16
      ∧ x17 = arg m c main_arg17
      ∧ x18 = arg m c main_arg18
      ∧ x19 = arg m c main_arg19) :
    Cert.ReferenceIdeal.Read.val_main_v141 (F := Ideal) x0 x1 x2 x3 x4 x5 x6 x7 x8 x9 x10 x11 x12 x13 x14 x15 x16 x17 x18 x19 = layer m c := by
  obtain ⟨rfl, rfl, rfl, rfl, rfl, rfl, rfl, rfl, rfl, rfl, rfl, rfl, rfl, rfl, rfl, rfl, rfl, rfl, rfl, rfl⟩ := h
  exact ref_layer m c

/-- The result's array ends as the layer: the tiles cover it, and each holds the layer at its tokens. -/
theorem final_layer : (dats m 0 c).arrAt 19 cfg0.N = layer m c := by
  refine (dats m 0 c).arrAt_eq_of_covers 19 _ (by decide +kernel) fun t hf y => ?_
  have hy : y = ix3 (0 : Fin 1) (y 1) (y 2) := funext fun a => by
    fin_cases a
    · exact Subsingleton.elim (α := Fin 1) _ _
    · rfl
    · rfl
  have he : ((cfg0.win 19).blk t).view.emb y = ix3 (sq t) (tok t (y 1)) (y 2) := by
    unfold sq tok
    blk_ext [idx_tile t]
  rw [he]
  have hk : ∀ z : S1x512x1024.Idx, z = ix3 (0 : Fin 1) (z 1) (z 2) →
      (insAt m c t).out (startAt m c t) z = layer m c (ix3 (sq t) (tok t (z 1)) (z 2)) := fun z hz =>
    (congrArg _ hz).trans (tile_eq m c t (z 1) (z 2))
  refine Eq.trans ?_ (hk y hy)
  blk_simp
  rw [after0_19]

/-- The launch over the extended reals: the result is the layer, the arguments end as they were. -/
theorem run_layer : θ_run defs (onTc (τ := τ) (main (F := Ideal))) ⟨m, fun _ => 0, ρ⟩ (fun r => ∀ c : Dev nD,
      r.2.mem ((c.tc : Thread nD τ).loc main_v41) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h.1 c).1 19 |>.trans (final_layer m c), h.2.1 c⟩) (θ_run_and (run_arrays m ρ) (frame m ρ))

end Cert.Proof.Post

end
-- ==== Proof.lean ====
/- The proof of the claims about the layer's three calls. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.PreRefIdeal
public import proofs.«01_k».proof.Proof.Gen.PreRefIdeal.Run
public import proofs.«01_k».proof.Proof.Gen.Attn
public import proofs.«01_k».proof.Proof.AttnFrame
public import proofs.«01_k».proof.Proof.PostClaim

@[expose] public section

set_option maxRecDepth 16384

namespace Cert.Proof

open Idealize.ShloMosaic Idealize.SL.Sem

-- the two programs have one text under two names: the comparison unfolds both, cases on labels included
set_option maxHeartbeats 4000000 in
set_option smartUnfolding false in
/-- The post call, on words: it ends, its arguments as they were and its semaphores at zero. -/
theorem frame_post : Cert.quiescent_Kernel := fun m ρ _ => Cert.Proof.Post.frame (F := Bits) m ρ

/-- The same over the extended reals. -/
theorem frame_post_ideal : Cert.quiescent_KernelIdeal := fun m ρ _ => Cert.Proof.Post.frame (F := Ideal) m ρ

/-- The post call's reference ends, its arguments as they were. -/
theorem frame_post_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The pre call, on words. -/
theorem frame_pre : Cert.quiescent_Pre := fun m ρ _ => Cert.Pre.Gen.frame m ρ

/-- The pre call over the extended reals. -/
theorem frame_pre_ideal : Cert.quiescent_PreIdeal := fun m ρ _ => Cert.PreIdeal.Gen.frame m ρ

/-- The pre call's reference ends, its arguments as they were. -/
theorem frame_pre_ref : Cert.quiescent_PreRefIdeal := fun m ρ _ =>
  (θ_run Cert.PreRefIdeal.defs _ _).mono (fun r h => ⟨fun c => (h c).2.2.2.2.2.2.2.2, Idealize.ShloMosaic.sem_eq_zero_of_no_sems (by decide) r.2⟩)
    (Cert.PreRefIdeal.Value.run (F := Ideal) m ρ)

/-- The attention call, on words. -/
theorem frame_attn : Cert.quiescent_Attn := fun m ρ _ => Cert.Proof.Attn.frame (F := Bits) m ρ

/-- Over the extended reals the post call computes what its reference computes: every element of the layer's result. -/
theorem value_post : Cert.algebraic_KernelIdeal_ReferenceIdeal := fun m ρ m' ρ' _ hag =>
  ⟨fun c => Cert.Proof.Post.layer m c, Cert.Proof.Post.run_layer m ρ,
    (θ_run Cert.ReferenceIdeal.defs _ _).mono
      (fun _ h c => ⟨(h c).1.trans ((Cert.ReferenceIdeal.Read.val_main_v141_eq (F := Ideal) _).trans
        (Cert.Proof.Post.ref_layer_of m c _ _ _ _ _ _ _ _ _ _ _ _ _ _ _ _ _ _ _ _ (hag c))), (h c).2⟩)
      (Cert.ReferenceIdeal.Value.run (F := Ideal) m' ρ')⟩

/-- The claims, all together. -/
theorem claim : Cert.Claim :=
  ⟨Cert.Kernel.Gen.facts, Cert.KernelIdeal.Gen.facts, Cert.ReferenceIdeal.Gen.facts, Cert.Pre.Gen.facts, Cert.PreIdeal.Gen.facts, Cert.PreRefIdeal.Gen.facts,
    Cert.Attn.Gen.facts, frame_post, frame_post_ideal, frame_post_ref, frame_pre, frame_pre_ideal, frame_pre_ref, frame_attn, trivial, value_post, trivial⟩

end Cert.Proof

end
